-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1048576x21 : Shape := ⟨2, ![1048576, 21]⟩
abbrev S1048576 : Shape := ⟨1, ![1048576]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S734004 : Shape := ⟨1, ![734004]⟩

class Facts : Prop where
  reducesTo_S1048576x21_S1048576_d1 : S1048576x21.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  sliceFits_S1048576_S734004 : S1048576.Slices (fun _ => 0) S734004
  slices_S734004_S1_734002 : S734004.Slices ![734002] S1
  shapeCasts_S1_S_ : S1.ShapeCasts S_
  slices_S734004_S1_734003 : S734004.Slices ![734003] S1
  bcast_S_S1048576 : S_.BroadcastsInDim S1048576 (![] : Fin 0 → Fin S1048576.rank)
  gather_S1048576x21_S1048576x1x1_S1048576x1_n_1_0_0_1_2_11_wf : GatherDims.WF S1048576x21 S1048576x1x1 S1048576x1 [] [1] [0] [1] [0] 2 ![1, 1]

variable [Facts]

def gather_S1048576x21_S1048576x1x1_S1048576x1_n_1_0_0_1_2_11 : GatherDims S1048576x21 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x21_S1048576x1x1_S1048576x1_n_1_0_0_1_2_11_wf
def fn_take_along_axis {F : FTy → Type} [FloatOps F] (arg0 : FVec F S1048576x21 .f32) (arg1 : IVec S1048576x1 32) : FVec F S1048576x1 .f32 :=
  let c : IVec S_ 32 := constantI S_ 32 0#32
  let v0 : IVec S1048576x1 32 := broadcastInDim S1048576x1 ![] bcast_S_S1048576x1 c
  let v1 : IVec S1048576x1 1 := cmpi .slt arg1 v0
  let c_0 : IVec S_ 32 := constantI S_ 32 21#32
  let v2 : IVec S1048576x1 32 := broadcastInDim S1048576x1 ![] bcast_S_S1048576x1 c_0
  let v3 : IVec S1048576x1 32 := addi arg1 v2
  let v4 : IVec S1048576x1 32 := select v1 v3 arg1
  let v5 : IVec S1048576x1x1 32 := shapeCast S1048576x1x1 v4 shapeCasts_S1048576x1_S1048576x1x1
  let c_1 : IVec S1 32 := constantI S1 32 20#32
  let c_2 : IVec S_ 32 := constantI S_ 32 0#32
  let v6 : IVec S1048576x1x1 32 := broadcastInDim S1048576x1x1 ![] bcast_S_S1048576x1x1 c_2
  let v7 : IVec S1048576x1x1 1 := cmpi .sge v5 v6
  let v8 : IVec S1x1x1 32 := broadcastInDim S1x1x1 ![2] bcast_S1_S1x1x1_2 c_1
  let v9 : IVec S1048576x1x1 32 := broadcastInDim S1048576x1x1 ![0, 1, 2] bcast_S1x1x1_S1048576x1x1_0_1_2 v8
  let v10 : IVec S1048576x1x1 1 := cmpi .sle v5 v9
  let v11 : IVec S1048576x1x1 1 := andi v7 v10
  let c_3 : IVec S_ 1 := constantI S_ 1 1#1
  let v12 : IVec S1048576x1 1 := (fun x v => Host.reduce IntOp.andi x v reducesTo_S1048576x1x1_S1048576x1_d2 h_S_) v11 c_3
  let v13 : FVec F S1048576x1 .f32 := (fun x i => Host.gather gather_S1048576x21_S1048576x1x1_S1048576x1_n_1_0_0_1_2_11 x i) arg0 v5
  let cst : FVec F S_ .f32 := constant S_ .f32 0x7FC00000#32
  let v14 : FVec F S1048576x1 .f32 := broadcastInDim S1048576x1 ![] bcast_S_S1048576x1 cst
  let v15 : FVec F S1048576x1 .f32 := select v12 v13 v14
  v15

def fn_part1 {F : FTy → Type} [FloatOps F] (main_arg1 : IVec S1048576 32) (main_v14 : IVec S_ 1) (main_v15 : IVec S_ 1) (main_v16 : IVec S_ 1) : IVec S1048576 1 :=
  let main_v17 : IVec S_ 1 := ori main_v16 main_v14
  let main_v18 : IVec S_ 1 := andi main_v15 main_v17
  let main_c : IVec S_ 32 := constantI S_ 32 0#32
  let main_v19 : IVec S1048576 32 := broadcastInDim S1048576 ![] bcast_S_S1048576 main_c
  let main_v20 : IVec S1048576 1 := cmpi .sge main_arg1 main_v19
  let main_c_4 : IVec S_ 32 := constantI S_ 32 21#32
  let main_v21 : IVec S1048576 32 := broadcastInDim S1048576 ![] bcast_S_S1048576 main_c_4
  let main_v22 : IVec S1048576 1 := cmpi .slt main_arg1 main_v21
  let main_v23 : IVec S1048576 1 := andi main_v20 main_v22
  let main_v24 : IVec S1048576 1 := broadcastInDim S1048576 ![] bcast_S_S1048576 main_v18
  let main_v25 : IVec S1048576 1 := andi main_v23 main_v24
  main_v25

def fn {F : FTy → Type} [FloatOps F] (main_arg0 : FVec F S1048576x21 .f32) (main_arg1 : IVec S1048576 32) : IVec S1048576 1 :=
  let main_v0 : FVec F S1048576x21 .f32 := Host.exp main_arg0
  let main_cst : FVec F S_ .f32 := constant S_ .f32 0x00000000#32
  let main_v1 : FVec F S1048576 .f32 := (fun x v => Host.reduceAdd x v reducesTo_S1048576x21_S1048576_d1 h_S_) main_v0 main_cst
  let main_v2 : FVec F S1048576 .f32 := Host.log main_v1
  let main_v3 : IVec S1048576x1 32 := broadcastInDim S1048576x1 ![0] bcast_S1048576_S1048576x1_0 main_arg1
  let main_v4 : FVec F S1048576x1 .f32 := fn_take_along_axis (F := F) main_arg0 main_v3
  let main_v5 : FVec F S1048576 .f32 := shapeCast S1048576 main_v4 shapeCasts_S1048576x1_S1048576
  let main_v6 : FVec F S1048576 .f32 := subf main_v2 main_v5
  let main_values : FVec F S734004 .f32 := (fun x => (Host.topK S734004 0 (FloatOps.cmpfTotal .gt) x sliceFits_S1048576_S734004).1) main_v6
  let main_indices : IVec S734004 32 := (fun x => (Host.topK S734004 0 (FloatOps.cmpfTotal .gt) x sliceFits_S1048576_S734004).2) main_v6
  let main_v7 : FVec F S1 .f32 := (extractStridedSlice S1 ![734002] · slices_S734004_S1_734002) main_values
  let main_v8 : FVec F S_ .f32 := shapeCast S_ main_v7 shapeCasts_S1_S_
  let main_v9 : FVec F S1 .f32 := (extractStridedSlice S1 ![734003] · slices_S734004_S1_734003) main_values
  let main_v10 : FVec F S_ .f32 := shapeCast S_ main_v9 shapeCasts_S1_S_
  let main_cst_0 : FVec F S_ .f32 := constant S_ .f32 0x3F7FFFFE#32
  let main_v11 : FVec F S_ .f32 := mulf main_v8 main_cst_0
  let main_v12 : IVec S_ 1 := cmpf .ole main_v10 main_v11
  let main_cst_1 : FVec F S_ .f32 := constant S_ .f32 0x7F7FFFFF#32
  let main_v13 : IVec S_ 1 := cmpf .ole main_v10 main_cst_1
  let main_v14 : IVec S_ 1 := andi main_v12 main_v13
  let main_cst_2 : FVec F S_ .f32 := constant S_ .f32 0x00800000#32
  let main_v15 : IVec S_ 1 := cmpf .oge main_v8 main_cst_2
  let main_cst_3 : FVec F S_ .f32 := constant S_ .f32 0x7F800000#32
  let main_v16 : IVec S_ 1 := cmpf .oeq main_v8 main_cst_3
  fn_part1 (F := F) main_arg1 main_v14 main_v15 main_v16
-- ==== Kernel.lean ====
abbrev S1048576x21 : Shape := ⟨2, ![1048576, 21]⟩
abbrev S1048576 : Shape := ⟨1, ![1048576]⟩
abbrev S8192x2688 : Shape := ⟨2, ![8192, 2688]⟩
abbrev S8192x128 : Shape := ⟨2, ![8192, 128]⟩
abbrev S2688 : Shape := ⟨1, ![2688]⟩
abbrev S_ : Shape := ⟨0, ![]⟩
abbrev S2688x1 : Shape := ⟨2, ![2688, 1]⟩
abbrev S128 : Shape := ⟨1, ![128]⟩
abbrev S1x128 : Shape := ⟨2, ![1, 128]⟩
abbrev S2688x128 : Shape := ⟨2, ![2688, 128]⟩
abbrev S128x2688 : Shape := ⟨2, ![128, 2688]⟩
abbrev S1x2688 : Shape := ⟨2, ![1, 2688]⟩
abbrev S8x2688 : Shape := ⟨2, ![8, 2688]⟩
abbrev S1x1 : Shape := ⟨2, ![1, 1]⟩
abbrev S32x2688 : Shape := ⟨2, ![32, 2688]⟩
abbrev S32x128 : Shape := ⟨2, ![32, 128]⟩
abbrev S1x8192x128 : Shape := ⟨3, ![1, 8192, 128]⟩
abbrev S1 : Shape := ⟨1, ![1]⟩
abbrev S1x1x1 : Shape := ⟨3, ![1, 1, 1]⟩

abbrev nBuf : Space → Nat
  | .hbm => 60
  | .vmem => 9
  | .smem => 0
  | _ => 0

abbrev bufTy : (tb : Table) → Fin (tcTables nBuf tb) → BufTy
  | .hbm, ⟨0, _⟩ => ⟨S1048576x21, .f32⟩
  | .hbm, ⟨1, _⟩ => ⟨S1048576, .i32⟩
  | .hbm, ⟨2, _⟩ => ⟨S8192x2688, .f32⟩
  | .hbm, ⟨3, _⟩ => ⟨S8192x128, .i32⟩
  | .hbm, ⟨4, _⟩ => ⟨S8192x128, .bf16⟩
  | .hbm, ⟨5, _⟩ => ⟨S2688, .i32⟩
  | .hbm, ⟨6, _⟩ => ⟨S_, .i32⟩
  | .hbm, ⟨7, _⟩ => ⟨S_, .i32⟩
  | .hbm, ⟨8, _⟩ => ⟨S2688, .i32⟩
  | .hbm, ⟨9, _⟩ => ⟨S2688, .i32⟩
  | .hbm, ⟨10, _⟩ => ⟨S2688, .i32⟩
  | .hbm, ⟨11, _⟩ => ⟨S_, .i32⟩
  | .hbm, ⟨12, _⟩ => ⟨S2688, .i32⟩
  | .hbm, ⟨13, _⟩ => ⟨S2688, .i1⟩
  | .hbm, ⟨14, _⟩ => ⟨S2688, .i32⟩
  | .hbm, ⟨15, _⟩ => ⟨S2688, .i32⟩
  | .hbm, ⟨16, _⟩ => ⟨S_, .i32⟩
  | .hbm, ⟨17, _⟩ => ⟨S2688, .i32⟩
  | .hbm, ⟨18, _⟩ => ⟨S2688, .i1⟩
  | .hbm, ⟨19, _⟩ => ⟨S2688, .i1⟩
  | .hbm, ⟨20, _⟩ => ⟨S_, .i32⟩
  | .hbm, ⟨21, _⟩ => ⟨S2688, .i32⟩
  | .hbm, ⟨22, _⟩ => ⟨S2688, .i32⟩
  | .hbm, ⟨23, _⟩ => ⟨S2688, .i32⟩
  | .hbm, ⟨24, _⟩ => ⟨S2688x1, .i32⟩
  | .hbm, ⟨25, _⟩ => ⟨S128, .i32⟩
  | .hbm, ⟨26, _⟩ => ⟨S1x128, .i32⟩
  | .hbm, ⟨27, _⟩ => ⟨S2688x128, .i32⟩
  | .hbm, ⟨28, _⟩ => ⟨S2688x128, .i32⟩
  | .hbm, ⟨29, _⟩ => ⟨S2688x128, .i1⟩
  | .hbm, ⟨30, _⟩ => ⟨S2688x128, .bf16⟩
  | .hbm, ⟨31, _⟩ => ⟨S128x2688, .bf16⟩
  | .hbm, ⟨32, _⟩ => ⟨S2688, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S2688, .i32⟩
  | .hbm, ⟨40, _⟩ => ⟨S2688, .i32⟩
  | .hbm, ⟨41, _⟩ => ⟨S_, .i32⟩
  | .hbm, ⟨42, _⟩ => ⟨S2688, .i32⟩
  | .hbm, ⟨43, _⟩ => ⟨S2688, .i1⟩
  | .hbm, ⟨44, _⟩ => ⟨S_, .i32⟩
  | .hbm, ⟨45, _⟩ => ⟨S2688, .i32⟩
  | .hbm, ⟨46, _⟩ => ⟨S2688, .i1⟩
  | .hbm, ⟨47, _⟩ => ⟨S_, .i32⟩
  | .hbm, ⟨48, _⟩ => ⟨S_, .i1⟩
  | .hbm, ⟨49, _⟩ => ⟨S2688, .i1⟩
  | .hbm, ⟨50, _⟩ => ⟨S2688, .i1⟩
  | .hbm, ⟨51, _⟩ => ⟨S2688, .i1⟩
  | .hbm, ⟨52, _⟩ => ⟨S2688, .i32⟩
  | .hbm, ⟨53, _⟩ => ⟨S2688, .i32⟩
  | .hbm, ⟨54, _⟩ => ⟨S2688, .i32⟩
  | .hbm, ⟨55, _⟩ => ⟨S2688, .f32⟩
  | .hbm, ⟨56, _⟩ => ⟨S1x2688, .f32⟩
  | .hbm, ⟨57, _⟩ => ⟨S8x2688, .f32⟩
  | .hbm, ⟨58, _⟩ => ⟨S1x1, .f32⟩
  | .hbm, ⟨59, _⟩ => ⟨S_, .f32⟩
  | .local _ .vmem, ⟨0, _⟩ => ⟨S32x2688, .f32⟩
  | .local _ .vmem, ⟨1, _⟩ => ⟨S32x2688, .f32⟩
  | .local _ .vmem, ⟨2, _⟩ => ⟨S32x128, .bf16⟩
  | .local _ .vmem, ⟨3, _⟩ => ⟨S32x128, .bf16⟩
  | .local _ .vmem, ⟨4, _⟩ => ⟨S2688x128, .bf16⟩
  | .local _ .vmem, ⟨5, _⟩ => ⟨S128x2688, .bf16⟩
  | .local _ .vmem, ⟨6, _⟩ => ⟨S8x2688, .f32⟩
  | .local _ .vmem, ⟨7, _⟩ => ⟨S1x1, .f32⟩
  | .local _ .vmem, ⟨8, _⟩ => ⟨S8192x128, .f32⟩
  | _, _ => ⟨S1048576x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![256], ![false]⟩

def k0_off1 (i : grid0.Coords) : Fin 2 → Nat :=
  let arg0 : BitVec 32 := BitVec.ofNat 32 (i 0).val
  let c32_i32 : BitVec 32 := 32#32
  let v26 : BitVec 32 := Scalar.muli arg0 c32_i32
  let v27 : Index := Scalar.indexCast v26
  let c0_15 : Index := 0#32
  ![v27.toNat, 0]
def k0_cond1 (i : grid0.Coords) : BitVec 1 :=
  let arg0 : BitVec 32 := BitVec.ofNat 32 (i 0).val
  let c255_i32 : BitVec 32 := 255#32
  let v31 : BitVec 1 := Scalar.cmpi .eq arg0 c255_i32
  let v32 : BitVec 32 := Scalar.extui v31
  let c0_i32 : BitVec 32 := 0#32
  let v33 : BitVec 1 := Scalar.cmpi .ne v32 c0_i32
  v33

@[reducible] def k0_t1_loop : Scf.Loop 32 :=
  let c0_i32_19 : BitVec 32 := 0#32
  let c31_i32 : BitVec 32 := 31#32
  let v35 : BitVec 32 := Scalar.addi c0_i32_19 c31_i32
  let c1_i32 : BitVec 32 := 1#32
  ⟨c0_i32_19, v35, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2688x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1048576x21 : Shape := ⟨2, ![1048576, 21]⟩
abbrev S1048576 : Shape := ⟨1, ![1048576]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S734003 : Shape := ⟨1, ![734003]⟩

abbrev nBuf : Space → Nat
  | .hbm => 53
  | .vmem => 0
  | .smem => 0
  | _ => 0

abbrev bufTy : (tb : Table) → Fin (tcTables nBuf tb) → BufTy
  | .hbm, ⟨0, _⟩ => ⟨S1048576x21, .f32⟩
  | .hbm, ⟨1, _⟩ => ⟨S1048576, .i32⟩
  | .hbm, ⟨2, _⟩ => ⟨S_, .f32⟩
  | .hbm, ⟨3, _⟩ => ⟨S1048576, .f32⟩
  | .hbm, ⟨4, _⟩ => ⟨S1048576x1, .f32⟩
  | .hbm, ⟨5, _⟩ => ⟨S1048576x1, .f32⟩
  | .hbm, ⟨6, _⟩ => ⟨S_, .f32⟩
  | .hbm, ⟨7, _⟩ => ⟨S1048576x1, .f32⟩
  | .hbm, ⟨8, _⟩ => ⟨S1048576x1, .i1⟩
  | .hbm, ⟨9, _⟩ => ⟨S_, .f32⟩
  | .hbm, ⟨10, _⟩ => ⟨S_, .f32⟩
  | .hbm, ⟨11, _⟩ => ⟨S1048576x1, .f32⟩
  | .hbm, ⟨12, _⟩ => ⟨S1048576x1, .f32⟩
  | .hbm, ⟨13, _⟩ => ⟨S1048576x21, .f32⟩
  | .hbm, ⟨14, _⟩ => ⟨S1048576x21, .f32⟩
  | .hbm, ⟨15, _⟩ => ⟨S1048576x21, .f32⟩
  | .hbm, ⟨16, _⟩ => ⟨S_, .f32⟩
  | .hbm, ⟨17, _⟩ => ⟨S1048576, .f32⟩
  | .hbm, ⟨18, _⟩ => ⟨S1048576x1, .f32⟩
  | .hbm, ⟨19, _⟩ => ⟨S1048576x1, .f32⟩
  | .hbm, ⟨20, _⟩ => ⟨S1048576x1, .f32⟩
  | .hbm, ⟨21, _⟩ => ⟨S1048576, .f32⟩
  | .hbm, ⟨22, _⟩ => ⟨S1048576x1, .i32⟩
  | .hbm, ⟨23, _⟩ => ⟨S_, .i32⟩
  | .hbm, ⟨24, _⟩ => ⟨S1048576x1, .i32⟩
  | .hbm, ⟨25, _⟩ => ⟨S1048576x1, .i1⟩
  | .hbm, ⟨26, _⟩ => ⟨S_, .i32⟩
  | .hbm, ⟨27, _⟩ => ⟨S1048576x1, .i32⟩
  | .hbm, ⟨28, _⟩ => ⟨S1048576x1, .i32⟩
  | .hbm, ⟨29, _⟩ => ⟨S1048576x1, .i32⟩
  | .hbm, ⟨30, _⟩ => ⟨S1048576x1x1, .i32⟩
  | .hbm, ⟨31, _⟩ => ⟨S1, .i32⟩
  | .hbm, ⟨32, _⟩ => ⟨S_, .i32⟩
  | .hbm, ⟨33, _⟩ => ⟨S1048576x1x1, .i32⟩
  | .hbm, ⟨34, _⟩ => ⟨S1048576x1x1, .i1⟩
  | .hbm, ⟨35, _⟩ => ⟨S1x1x1, .i32⟩
  | .hbm, ⟨36, _⟩ => ⟨S1048576x1x1, .i32⟩
  | .hbm, ⟨37, _⟩ => ⟨S1048576x1x1, .i1⟩
  | .hbm, ⟨38, _⟩ => ⟨S1048576x1x1, .i1⟩
  | .hbm, ⟨39, _⟩ => ⟨S_, .i1⟩
  | .hbm, ⟨40, _⟩ => ⟨S1048576x1, .i1⟩
  | .hbm, ⟨41, _⟩ => ⟨S1048576x1, .f32⟩
  | .hbm, ⟨42, _⟩ => ⟨S_, .f32⟩
  | .hbm, ⟨43, _⟩ => ⟨S1048576x1, .f32⟩
  | .hbm, ⟨44, _⟩ => ⟨S1048576x1, .f32⟩
  | .hbm, ⟨45, _⟩ => ⟨S1048576, .f32⟩
  | .hbm, ⟨46, _⟩ => ⟨S1048576, .f32⟩
  | .hbm, ⟨47, _⟩ => ⟨S734003, .f32⟩
  | .hbm, ⟨48, _⟩ => ⟨S734003, .i32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S1048576x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_values : Ref sig .tc := ⟨.hbm, 47, rfl⟩
abbrev main_indices : Ref sig .tc := ⟨.hbm, 48, rfl⟩
abbrev main_cst_3 : Ref sig .tc := ⟨.hbm, 49, rfl⟩
abbrev main_v18 : Ref sig .tc := ⟨.hbm, 50, rfl⟩
abbrev main_cst_4 : Ref sig .tc := ⟨.hbm, 51, rfl⟩
abbrev main_v19 : Ref sig .tc := ⟨.hbm, 52, rfl⟩

abbrev nD : Nat := 1
abbrev τ : Topo := Topo.v7x

variable {F : FTy → Type} [FloatOps F]
-- ==== Proof.IRuns.lean ====
module

public import proofs.«01_k».proof.Proof.Gen.KernelIdeal.Skeleton
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The grid point is the last one: the condition of the body's branch. -/
abbrev isLast (i : grid0.Coords) : Prop := k0_cond1 i = 1#1

/-- One buffer of the result's window, through which what the body leaves there is stated. -/
abbrev outView : View sig .tc .vmem S1x1 .f32 := (Memref.whole cc0_stg5_0 : Memref sig .tc .vmem S1x1 .f32).view

set_option maxHeartbeats 1000000 in
/-- The body at a point that is not the last: it leaves the inputs and the result's buffer as they were and writes into
    the scratch the pieces this definition finds. -/
noncomputable def runEarly (c : Dev nD) (i : grid0.Coords) (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) (hc : ¬isLast i)
    (x0 : Vec F S32x2688 .f32) (x1 : Vec F S32x128 .bf16) (x2 : Vec F S2688x128 .bf16) (x3 : Vec F S128x2688 .bf16) (x4 : Vec F S8x2688 .f32) (xs : Vec F S8192x128 .f32) :
    { LS : List (View.Piece (Elt F) S8192x128 .f32) //
      ∀ (d5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d5 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun d5 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexact HS

set_option maxHeartbeats 1000000 in
/-- The body at the last point: it also runs the search over the whole scratch and writes the result's buffer. -/
noncomputable def runLast (c : Dev nD) (i : grid0.Coords) (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) (hc : isLast i)
    (x0 : Vec F S32x2688 .f32) (x1 : Vec F S32x128 .bf16) (x2 : Vec F S2688x128 .bf16) (x3 : Vec F S128x2688 .bf16) (x4 : Vec F S8x2688 .f32) (xs : Vec F S8192x128 .f32) :
    Σ' (L5 : List (View.Piece (Elt F) S1x1 .f32)), { LS : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexact HS

end Cert.KernelIdeal.Hand

end
-- ==== Proof.IBody.lean ====
module

public import proofs.«01_k».proof.Proof.IRuns
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes, as functions of what its buffers hold -/

/-- The losses of one block of 32 × 128 samples, from the contents of the five input buffers. -/
def blockLoss (x0 : Vec F S32x2688 .f32) (x1 : Vec F S32x128 .bf16) (x2 : Vec F S2688x128 .bf16) (x3 : Vec F S128x2688 .bf16) (x4 : Vec F S8x2688 .f32) : Vec F S32x128 .f32 :=
  k0_pay1 x0 x1 x3 (VecWindow.window x4 ![0, 0] S1x2688.size inb_S8x2688_S1x2688_0_0) x2 x2

/-- One trip of the search over a whole array of losses: the candidate bit is kept when at least 734003 losses reach the
    number the candidate's bits spell. -/
def searchStep (x : Vec F S8192x128 .f32) (k : Fin k0_t1_loop.trips) (a : BitVec 32) : BitVec 32 :=
  Scalar.select (Scalar.cmpi .sge (extractAt ![0, 0, 0] (k0_pay2 x k a) inpos_S1x1x1_p0_0_0) 734003#32)
    (Scalar.ori a (Scalar.shli 1#32 (Scalar.subi 30#32 (Scf.iv 0#32 1#32 k.val)))) a

/-- The whole search, all its trips. -/
def search (x : Vec F S8192x128 .f32) : BitVec 32 :=
  Scf.fold (searchStep x) 0#32

/-- The early run's only piece: the block's losses, at the block's rows of the scratch. -/
theorem runEarly_pieces (c : Dev nD) (i : grid0.Coords) (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) (hc : ¬isLast i)
    (x0 : Vec F S32x2688 .f32) (x1 : Vec F S32x128 .bf16) (x2 : Vec F S2688x128 .bf16) (x3 : Vec F S128x2688 .bf16) (x4 : Vec F S8x2688 .f32) (xs : Vec F S8192x128 .f32) :
    (runEarly c i arg1 harg1 arg2 harg2 arg3 harg3 arg4 harg4 arg5 harg5 arg6 harg6 arg7 harg7 hc x0 x1 x2 x3 x4 xs).1
      = [⟨Rect.unit (k0_off1 i) S32x128.size (k0_off1_inb i), blockLoss x0 x1 x2 x3 x4⟩] := by
  have e : (runEarly c i arg1 harg1 arg2 harg2 arg3 harg3 arg4 harg4 arg5 harg5 arg6 harg6 arg7 harg7 hc x0 x1 x2 x3 x4 xs).1
      = [⟨Rect.unit (k0_off1 i) S32x128.size (k0_off1_inb i), k0_pay1 (arg1.view.readAt (Elt F) (Rect.unit ![0, 0] S32x2688.size inb_S32x2688_S32x2688_0_0).toLoadRect (harg1.unread x0)) (arg2.view.readAt (Elt F) (Rect.unit ![0, 0] S32x128.size inb_S32x128_S32x128_0_0).toLoadRect (harg2.unread x1)) (arg4.view.readAt (Elt F) (Rect.unit ![0, 0] S128x2688.size inb_S128x2688_S128x2688_0_0).toLoadRect (harg4.unread x3)) (arg5.view.readAt (Elt F) (Rect.unit (s := S8x2688) ![0, 0] S1x2688.size inb_S8x2688_S1x2688_0_0).toLoadRect (harg5.unread x4)) (arg3.view.readAt (Elt F) (Rect.unit ![0, 0] S2688x128.size inb_S2688x128_S2688x128_0_0).toLoadRect (harg3.unread x2)) (arg3.view.readAt (Elt F) (Rect.unit ![0, 0] S2688x128.size inb_S2688x128_S2688x128_0_0).toLoadRect (harg3.unread x2))⟩] := rfl
  rw [e, View.readAt_full, View.readAt_full, View.readAt_full, View.readAt_full, View.readAt_unit _ _ _ rfl inb_S8x2688_S1x2688_0_0,
    harg1.read_unread, harg2.read_unread, harg3.read_unread, harg4.read_unread, harg5.read_unread]
  rfl

/-- The last run's piece in the scratch is the same. -/
theorem runLast_pieces (c : Dev nD) (i : grid0.Coords) (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) (hc : isLast i)
    (x0 : Vec F S32x2688 .f32) (x1 : Vec F S32x128 .bf16) (x2 : Vec F S2688x128 .bf16) (x3 : Vec F S128x2688 .bf16) (x4 : Vec F S8x2688 .f32) (xs : Vec F S8192x128 .f32) :
    (runLast c i arg1 harg1 arg2 harg2 arg3 harg3 arg4 harg4 arg5 harg5 arg6 harg6 arg7 harg7 hc x0 x1 x2 x3 x4 xs).2.1
      = [⟨Rect.unit (k0_off1 i) S32x128.size (k0_off1_inb i), blockLoss x0 x1 x2 x3 x4⟩] := by
  have e : (runLast c i arg1 harg1 arg2 harg2 arg3 harg3 arg4 harg4 arg5 harg5 arg6 harg6 arg7 harg7 hc x0 x1 x2 x3 x4 xs).2.1
      = [⟨Rect.unit (k0_off1 i) S32x128.size (k0_off1_inb i), k0_pay1 (arg1.view.readAt (Elt F) (Rect.unit ![0, 0] S32x2688.size inb_S32x2688_S32x2688_0_0).toLoadRect (harg1.unread x0)) (arg2.view.readAt (Elt F) (Rect.unit ![0, 0] S32x128.size inb_S32x128_S32x128_0_0).toLoadRect (harg2.unread x1)) (arg4.view.readAt (Elt F) (Rect.unit ![0, 0] S128x2688.size inb_S128x2688_S128x2688_0_0).toLoadRect (harg4.unread x3)) (arg5.view.readAt (Elt F) (Rect.unit (s := S8x2688) ![0, 0] S1x2688.size inb_S8x2688_S1x2688_0_0).toLoadRect (harg5.unread x4)) (arg3.view.readAt (Elt F) (Rect.unit ![0, 0] S2688x128.size inb_S2688x128_S2688x128_0_0).toLoadRect (harg3.unread x2)) (arg3.view.readAt (Elt F) (Rect.unit ![0, 0] S2688x128.size inb_S2688x128_S2688x128_0_0).toLoadRect (harg3.unread x2))⟩] := rfl
  rw [e, View.readAt_full, View.readAt_full, View.readAt_full, View.readAt_full, View.readAt_unit _ _ _ rfl inb_S8x2688_S1x2688_0_0,
    harg1.read_unread, harg2.read_unread, harg3.read_unread, harg4.read_unread, harg5.read_unread]
  rfl

/-- The last run's piece in the result's buffer, over whatever the scratch then holds. -/
theorem runLast_out (c : Dev nD) (i : grid0.Coords) (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) (hc : isLast i)
    (x0 : Vec F S32x2688 .f32) (x1 : Vec F S32x128 .bf16) (x2 : Vec F S2688x128 .bf16) (x3 : Vec F S128x2688 .bf16) (x4 : Vec F S8x2688 .f32) (xs y : Vec F S8192x128 .f32)
    (hy : arg7.view.read (Elt F) (arg7.view.writes (Elt F) (harg7.unread xs) (runLast c i arg1 harg1 arg2 harg2 arg3 harg3 arg4 harg4 arg5 harg5 arg6 harg6 arg7 harg7 hc x0 x1 x2 x3 x4 xs).2.1) = y) :
    (runLast c i arg1 harg1 arg2 harg2 arg3 harg3 arg4 harg4 arg5 harg5 arg6 harg6 arg7 harg7 hc x0 x1 x2 x3 x4 xs).1
      = [⟨Rect.unit ![0, 0] S1x1.size inb_S1x1_S1x1_0_0, k0_pay3 y (search y)⟩] := by
  have hv : arg7.view.readAt (Elt F) (Rect.unit ![0, 0] S8192x128.size inb_S8192x128_S8192x128_0_0).toLoadRect (arg7.view.writes (Elt F) (harg7.unread xs) (runLast c i arg1 harg1 arg2 harg2 arg3 harg3 arg4 harg4 arg5 harg5 arg6 harg6 arg7 harg7 hc x0 x1 x2 x3 x4 xs).2.1) = y := by
    rw [View.readAt_full, hy]
  rw [← hv]
  rfl

/-- The block written at point `t` starts at row `32 * t`, column 0. -/
theorem off_eq (t : Fin cfg0.N) : k0_off1 (grid0.coords t) = ![32 * t.val, 0] := by
  have ht : t.val < 256 := Nat.lt_of_lt_of_eq t.isLt N_0
  have e0 : (grid0.coords t 0).val = t.val / 1 % 256 := Pipeline.Grid.coords_val t 0 (by decide) rfl
  rw [k0_off1_eq, e0, show t.val / 1 % 256 = t.val by omega]

/-- A point is the last one exactly when its number is 255. -/
theorem isLast_iff : ∀ t : Fin cfg0.N, isLast (grid0.coords t) ↔ t.val = 255 :=
  (fun t => by
    have ht : t.val < 256 := Nat.lt_of_lt_of_eq t.isLt N_0
    have e0 : (grid0.coords t 0).val = t.val / 1 % 256 := Pipeline.Grid.coords_val t 0 (by decide) rfl
    have h : isLast (grid0.coords t) ↔ t.val % 256 = 255 := by
      simp only [isLast, k0_cond1, e0]
      word_cmp
    rw [h]; omega
   : ∀ t : Fin grid0.N, isLast (grid0.coords t) ↔ t.val = 255)

/-! ## The values the region leaves -/

/-- The losses of the block at point `t`, the input buffers holding their blocks there. -/
def pointLoss (c : Dev nD) (t : Fin cfg0.N) : Vec F S32x128 .f32 :=
  blockLoss (iblk m c 0 t) (iblk m c 1 t) (iblk m c 2 t) (iblk m c 3 t) (iblk m c 4 t)

/-- All the losses, as the scratch holds them after the last point: row `32 * t + r` is row `r` of block `t`. -/
def losses (c : Dev nD) : Vec F S8192x128 .f32 := fun y =>
  pointLoss m c ⟨(y (0 : Fin 2)).val / 32, lt_of_lt_of_eq (by have h : (y (0 : Fin 2)).val < 8192 := (y (0 : Fin 2)).isLt; omega : _ < 256) N_0.symm⟩
    (Rect.unitLocal (s := S8192x128) (off := ![32 * ((y (0 : Fin 2)).val / 32), 0]) (size := S32x128.size) y
      (Rect.unit_rows_mem (d := ![8192, 128]) (W := 32) y rfl rfl (by omega)))

/-- The result: the last point's computation over all the losses. -/
def result (c : Dev nD) : Vec F S1x1 .f32 := k0_pay3 (losses m c) (search (losses m c))

/-- The first `n` blocks of a scratch hold their losses. -/
def Filled (c : Dev nD) (n : ℕ) (d : Vec F S8192x128 .f32) : Prop :=
  ∀ y : S8192x128.Idx, (y (0 : Fin 2)).val < 32 * n → d y = losses m c y

theorem Filled.all {c : Dev nD} {d : Vec F S8192x128 .f32} (h : Filled m c 256 d) : d = losses m c :=
  funext fun y => h y (by have h : (y (0 : Fin 2)).val < 8192 := (y (0 : Fin 2)).isLt; omega)

/-- Writing block `t` over a scratch whose first `t` blocks are filled fills the first `t + 1`. -/
theorem Filled.step {c : Dev nD} {t : Fin cfg0.N} {d : Vec F S8192x128 .f32} (h : Filled m c t.val d)
    (arg7 : Memref sig .tc .vmem S8192x128 .f32) (harg7 : arg7.IsWhole) :
    Filled m c (t.val + 1) (arg7.view.read (Elt F) (arg7.view.writes (Elt F) (harg7.unread d)
      [⟨Rect.unit (k0_off1 (grid0.coords t)) S32x128.size (k0_off1_inb (grid0.coords t)), pointLoss m c t⟩])) := by
  intro y hy
  rw [View.read_writes_cons_rows (d := ![8192, 128]) (W := 32) arg7.view _ (k0_off1_inb (grid0.coords t)) _ [] y (off_eq t) rfl rfl]
  split
  · rename_i hh
    have e : t = ⟨(y (0 : Fin 2)).val / 32, lt_of_lt_of_eq (by have h : (y (0 : Fin 2)).val < 8192 := (y (0 : Fin 2)).isLt; omega : _ < 256) N_0.symm⟩ := Fin.ext (by show t.val = (y (0 : Fin 2)).val / 32; omega)
    have e1 : t.val = (y (0 : Fin 2)).val / 32 := by omega
    unfold losses
    rw [← e]
    congr 1
    funext a; apply Fin.ext
    rw [Rect.unitLocal_val, Rect.unitLocal_val, e1]
  · rename_i hh
    rw [View.writes_nil, harg7.read_unread]
    exact h y (by omega)

end Cert.KernelIdeal.Hand

end
-- ==== Proof.IFrame.lean ====
module

public import proofs.«01_k».proof.Proof.IBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the result's window is idle -/

theorem idleEarly : ∀ t : Fin cfg0.N, ¬isLast (grid0.coords t) → cfg0.idle 5 (grid0.coords t) = true := by decide +kernel
theorem noFlushEarly : ∀ t : Fin cfg0.N, ¬isLast (grid0.coords t) → (cfg0.win 5).flush t = false := by decide +kernel
theorem liveLast : ∀ t : Fin cfg0.N, isLast (grid0.coords t) → cfg0.idle 5 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

/-! ## The buffers of a point -/

/-- Window 0's buffer at point `t`. -/
abbrev ms0 (t : Fin cfg0.N) : Memref sig .tc .vmem S32x2688 .f32 := win0_0.stage (cfg0.slots t 0)
/-- Window 1's buffer at point `t`. -/
abbrev ms1 (t : Fin cfg0.N) : Memref sig .tc .vmem S32x128 .bf16 := win0_1.stage (cfg0.slots t 1)
/-- Window 2's buffer at point `t`. -/
abbrev ms2 (t : Fin cfg0.N) : Memref sig .tc .vmem S2688x128 .bf16 := win0_2.stage (cfg0.slots t 2)
/-- Window 3's buffer at point `t`. -/
abbrev ms3 (t : Fin cfg0.N) : Memref sig .tc .vmem S128x2688 .bf16 := win0_3.stage (cfg0.slots t 3)
/-- Window 4's buffer at point `t`. -/
abbrev ms4 (t : Fin cfg0.N) : Memref sig .tc .vmem S8x2688 .f32 := win0_4.stage (cfg0.slots t 4)
/-- Window 5's buffer at point `t`. -/
abbrev ms5 (t : Fin cfg0.N) : Memref sig .tc .vmem S1x1 .f32 := win0_5.stage (cfg0.slots t 5)
/-- The scratch, whole. -/
abbrev scr : Memref sig .tc .vmem S8192x128 .f32 := Memref.whole cc0_scratch0

/-- What the launch hands the region, with the scratch spelled as a memref at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- Before point `n`: the scratch at contents whose first `n` blocks hold their losses, and the generator register. -/
def Phi (c : Dev nD) (n : ℕ) : sProp 𝕄 :=
  iprop((∃ d, ⌜Filled m c n d⌝ ∗ owns (c : Thread nD τ) scr fullShare d) ∗ (∃ r, prngReg c r))

/-- The pipeline's proof data: each input's buffer keeps its block; the result's buffer ends at `result`; the scratch is
    filled block by block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m c
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = result m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body's triple at any point, by the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi
  by_cases hl : isLast (grid0.coords t)
  · have hn : t.val = 255 := (isLast_iff t).mp hl
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [liveLast t hl], after5]
    iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
    have hf := Filled.step m hds scr (Memref.isWhole_whole _)
    have hp := fun (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) => runLast_pieces c (grid0.coords t) arg1 harg1 arg2 harg2 arg3 harg3 arg4 harg4 arg5 harg5 arg6 harg6 arg7 harg7 hl (iblk m c 0 t) (iblk m c 1 t) (iblk m c 2 t) (iblk m c 3 t) (iblk m c 4 t) ds
    have ho := fun (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) => runLast_out c (grid0.coords t) arg1 harg1 arg2 harg2 arg3 harg3 arg4 harg4 arg5 harg5 arg6 harg6 arg7 harg7 hl (iblk m c 0 t) (iblk m c 1 t) (iblk m c 2 t) (iblk m c 3 t) (iblk m c 4 t) ds
    iapply ((runLast c (grid0.coords t) _ _ _ _ _ _ _ _ _ _ _ _ _ _ hl (iblk m c 0 t) (iblk m c 1 t) (iblk m c 2 t) (iblk m c 3 t) (iblk m c 4 t) ds).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]
      · iexists _
        isplitr
        · ipureintro; exact hf
        · unfold owns; iexists _; isplitr
          swap; · iexact HS
          ipureintro; rw [hp]; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    rw [ho _ _ _ _ _ _ _ _ _ _ _ _ _ _ (losses m c) (by rw [hp]; rw [hn] at hf; exact hf.all), View.read_writes_full]
    rfl
  · have hn : t.val ≠ 255 := fun h => hl ((isLast_iff t).mpr h)
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [Dat.leavesExact_idle (dats m 0 c) 5 t (idleEarly t hl) (noFlushEarly t hl)]
    iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
    have hf := Filled.step m hds scr (Memref.isWhole_whole _)
    have hp := fun (arg1 : Memref sig .tc .vmem S32x2688 .f32) (harg1 : arg1.IsWhole) (arg2 : Memref sig .tc .vmem S32x128 .bf16) (harg2 : arg2.IsWhole) (arg3 : Memref sig .tc .vmem S2688x128 .bf16) (harg3 : arg3.IsWhole) (arg4 : Memref sig .tc .vmem S128x2688 .bf16) (harg4 : arg4.IsWhole) (arg5 : Memref sig .tc .vmem S8x2688 .f32) (harg5 : arg5.IsWhole) (arg6 : Memref sig .tc .vmem S1x1 .f32) (harg6 : arg6.IsWhole) (arg7 : Memref sig .tc .vmem S8192x128 .f32) (harg7 : arg7.IsWhole) => runEarly_pieces c (grid0.coords t) arg1 harg1 arg2 harg2 arg3 harg3 arg4 harg4 arg5 harg5 arg6 harg6 arg7 harg7 hl (iblk m c 0 t) (iblk m c 1 t) (iblk m c 2 t) (iblk m c 3 t) (iblk m c 4 t) ds
    iapply ((runEarly c (grid0.coords t) _ _ _ _ _ _ _ _ _ _ _ _ _ _ hl (iblk m c 0 t) (iblk m c 1 t) (iblk m c 2 t) (iblk m c 3 t) (iblk m c 4 t) ds).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists _
        isplitr
        · ipureintro; exact hf
        · unfold owns; iexists _; isplitr
          swap; · iexact HS
          ipureintro; rw [hp]; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨%d, HS⟩, Hg⟩
  isplitl [HS]
  · iexists d
    isplitr
    · ipureintro; intro y hy; exact absurd hy (by omega)
    iexact HS
  iexact Hg

/-- After the last point the invariant gives it back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%d, -, HS⟩, Hg⟩
  isplitl [HS]
  · iexists _; iexact HS
  iexact Hg

/-! ## The run and the frame -/

set_option backward.isDefEq.respectTransparency.types false in
set_option maxHeartbeats 800000 in
/-- The launch: every array of the pipeline ends at what the proof data says, every other buffer as the host lines after
    the region leave it, every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Search.lean ====
module

public import Idealize.ShloMosaic.PureOps.Ideal
public import Idealize.ShloMosaic.Lib.TotalOrder

/-! The bit-by-bit search for the greatest 32-bit float not above an extended real. -/

@[expose] public section

noncomputable section

namespace Cert.Search

open Idealize.ShloMosaic Idealize.ShloMosaic.TotalOrder

/-- The extended real the 32-bit float pattern with the natural `c` as its bits denotes. -/
def val (c : ℕ) : EReal := Ideal.ieee 8 23 (BitVec.ofNat 32 c)

/-- The whole number of least subnormals in a non-negative finite pattern. -/
def units (c : ℕ) : ℕ := sig 23 (c / 2 ^ 23) (c % 2 ^ 23)

theorem toNat_pattern {c : ℕ} (h : c < 2 ^ 31) : (BitVec.ofNat 32 c).toNat = c := by
  rw [BitVec.toNat_ofNat]; omega

theorem expo_pattern {c : ℕ} (h : c < 2 ^ 31) : expo 8 23 (BitVec.ofNat 32 c) = c / 2 ^ 23 := by
  rw [expo_eq, toNat_pattern h]; omega

theorem frac_pattern {c : ℕ} (h : c < 2 ^ 31) : frac 23 (BitVec.ofNat 32 c) = c % 2 ^ 23 := by
  rw [frac_eq, toNat_pattern h]

theorem sign_pattern {c : ℕ} (h : c < 2 ^ 31) : sign 8 23 (BitVec.ofNat 32 c) = false := by
  rw [show sign 8 23 (BitVec.ofNat 32 c) = (BitVec.ofNat 32 c).msb from sign_eq_msb (e := 8) (m := 23) _]
  rw [BitVec.msb_eq_false_iff_two_mul_lt, toNat_pattern h]; omega

/-- A finite non-negative pattern denotes its whole number of least subnormals. -/
theorem val_finite {c : ℕ} (h : c < 0x7F800000) : val c = (((units c : ℝ) * ulp 8 23 : ℝ) : EReal) := by
  have h31 : c < 2 ^ 31 := by omega
  have hn : ¬ IsNaN 8 23 (BitVec.ofNat 32 c) := by
    unfold IsNaN; rw [expo_pattern h31]; omega
  unfold val
  rw [ieee_eq_signed_absVal hn, sign_pattern h31, if_neg (by decide), absVal, expo_pattern h31, frac_pattern h31,
    if_neg (by omega)]
  rfl

/-- The pattern past the greatest finite one denotes plus infinity. -/
theorem val_inf : val 0x7F800000 = ⊤ := by
  simp [val, Ideal.ieee]

/-- All ones under a clear sign is not a number, read as minus infinity. -/
theorem val_nan : val 0x7FFFFFFF = ⊥ := by
  simp [val, Ideal.ieee]

/-- A larger finite pattern holds more units. -/
theorem units_lt {c d : ℕ} (h : c < d) : units c < units d :=
  sig_lt_sig (Nat.mod_lt _ (by norm_num)) (Nat.mod_lt _ (by norm_num)) (by omega)

/-- Patterns up to the infinity are ordered as the numbers they denote. -/
theorem val_lt {c d : ℕ} (h : c < d) (hd : d ≤ 0x7F800000) : val c < val d := by
  rw [val_finite (by omega)]
  rcases Nat.lt_or_ge d 0x7F800000 with hd' | hd'
  · rw [val_finite hd', EReal.coe_lt_coe_iff]
    exact mul_lt_mul_of_pos_right (by exact_mod_cast units_lt h) (ulp_pos _ _)
  · rw [show d = 0x7F800000 by omega, val_inf]; exact EReal.coe_lt_top _

theorem val_le {c d : ℕ} (h : c ≤ d) (hd : d ≤ 0x7F800000) : val c ≤ val d := by
  rcases Nat.eq_or_lt_of_le h with rfl | h'
  · exact le_rfl
  · exact (val_lt h' hd).le

theorem val_zero : val 0 = 0 := by simp [val, Ideal.ieee]

theorem val_pos {c : ℕ} (h : 0 < c) (hc : c ≤ 0x7F800000) : 0 < val c := val_zero ▸ val_lt h hc

/-- From the least normal number on, the next pattern is at most one part in `2 ^ 23` greater. -/
theorem units_succ {c : ℕ} (h : 0x800000 ≤ c) : 2 ^ 23 * units (c + 1) ≤ (2 ^ 23 + 1) * units c := by
  unfold units sig
  set E := c / 2 ^ 23 with hE
  set T := c % 2 ^ 23 with hT
  have hE1 : 1 ≤ E := by omega
  obtain ⟨F, hF⟩ : ∃ F, E = F + 1 := ⟨E - 1, by omega⟩
  rcases Nat.lt_or_ge (T + 1) (2 ^ 23) with hlt | hge
  · rw [show (c + 1) / 2 ^ 23 = E by omega, show (c + 1) % 2 ^ 23 = T + 1 by omega, if_neg (by omega), hF]
    rw [show F + 1 - 1 = F by omega]
    have := Nat.two_pow_pos F
    nlinarith
  · rw [show (c + 1) / 2 ^ 23 = E + 1 by omega, show (c + 1) % 2 ^ 23 = 0 by omega, if_neg (by omega), if_neg (by omega), hF]
    rw [show F + 1 + 1 - 1 = F + 1 by omega, show F + 1 - 1 = F by omega, show T = 2 ^ 23 - 1 by omega, pow_succ]
    have := Nat.two_pow_pos F
    ring_nf
    omega

/-- What holds before a fold over `n` trips and is kept by each trip holds after it. -/
theorem fold_inv {α : Type} {n : ℕ} (P : ℕ → α → Prop) (g : Fin n → α → α) (init : α) (h0 : P 0 init)
    (hs : ∀ (k : Fin n) (a : α), P k.val a → P (k.val + 1) (g k a)) :
    P n ((List.finRange n).foldl (fun acc k => g k acc) init) := by
  induction n generalizing P init with
  | zero => simpa using h0
  | succ n ih =>
    rw [List.finRange_succ, List.foldl_cons, List.foldl_map]
    exact ih (fun k a => P (k + 1) a) (fun k a => g k.succ a) _ (by simpa using hs 0 init h0)
      fun k a h => by simpa using hs k.succ a (by simpa using h)

/-- One trip of the search: set bit `30 - k` when the pattern so obtained passes. -/
def step (ok : ℕ → Prop) [DecidablePred ok] (k a : ℕ) : ℕ := if ok (a + 2 ^ (30 - k)) then a + 2 ^ (30 - k) else a

/-- What holds of the search after `k` trips: the pattern is a multiple of the bit last tried, is finite, passes,
    and the pattern one such bit on is too great. -/
def Inv (A : EReal) (k a : ℕ) : Prop :=
  2 ^ (31 - k) ∣ a ∧ a < 0x7F800000 ∧ val a ≤ A ∧ (a + 2 ^ (31 - k) ≤ 0x7F800000 → A < val (a + 2 ^ (31 - k)))

theorem inv_zero {A : EReal} (hA : 0 ≤ A) : Inv A 0 0 :=
  ⟨⟨0, by simp⟩, by norm_num, by rw [val_zero]; exact hA, fun h => absurd h (by norm_num)⟩

/-- A multiple of `2 ^ (j + 1)` below the infinity plus `2 ^ j` is at most the infinity. -/
theorem candidate_le {j a : ℕ} (hj : j ≤ 30) (hd : 2 ^ (j + 1) ∣ a) (ha : a < 0x7F800000) : a + 2 ^ j ≤ 0x7F800000 := by
  obtain ⟨q, rfl⟩ := hd
  interval_cases j <;> omega

/-- Each trip keeps the invariant. -/
theorem inv_step {A : EReal} (hA : A < ⊤) (ok : ℕ → Prop) [DecidablePred ok]
    (hok : ∀ c, 0 < c → c ≤ 0x7F800000 → (ok c ↔ val c ≤ A)) {k a : ℕ} (hk : k < 31) (h : Inv A k a) :
    Inv A (k + 1) (step ok k a) := by
  obtain ⟨hd, hlt, hle, hup⟩ := h
  obtain ⟨j, rfl⟩ : ∃ j, k = 30 - j := ⟨30 - k, by omega⟩
  obtain ⟨i, hi, hj⟩ : ∃ i, i ≤ 30 ∧ 30 - (30 - j) = i := ⟨_, by omega, rfl⟩
  have e1 : 31 - (30 - j) = i + 1 := by omega
  have e2 : 31 - (30 - j + 1) = i := by omega
  rw [e1] at hd hup
  unfold Inv step
  rw [hj, e2]
  have hp := Nat.two_pow_pos i
  have hc := candidate_le hi hd hlt
  have hda : 2 ^ i ∣ a := (pow_dvd_pow 2 (Nat.le_succ i)).trans hd
  split
  · next hy =>
    have hy := (hok _ (by omega) hc).1 hy
    refine ⟨hda.add dvd_rfl, ?_, hy, fun hle' => ?_⟩
    · rcases Nat.lt_or_ge (a + 2 ^ i) 0x7F800000 with g | g
      · exact g
      · rw [show a + 2 ^ i = 0x7F800000 by omega, val_inf] at hy
        exact absurd hA (not_lt.2 hy)
    · rw [show a + 2 ^ i + 2 ^ i = a + 2 ^ (i + 1) by rw [pow_succ]; omega] at hle' ⊢
      exact hup hle'
  · next hn => exact ⟨hda, hlt, hle, fun _ => not_le.1 fun g => hn ((hok _ (by omega) hc).2 g)⟩

/-- What the search ends at, when the bound is not infinite: the greatest finite pattern that passes. -/
theorem inv_last {A : EReal} {r : ℕ} (h : Inv A 31 r) : r < 0x7F800000 ∧ val r ≤ A ∧ A < val (r + 1) := by
  obtain ⟨-, h1, h2, h3⟩ := h
  exact ⟨h1, h2, h3 (by simpa using h1)⟩

/-- Numbers at most `A (1 - 2^-23)` and at most the greatest finite float are at most the pattern found. -/
theorem le_found {A b : EReal} {r : ℕ} (hr : r < 0x7F800000) (hle : val r ≤ A) (hlt : A < val (r + 1))
    (hA : val 0x00800000 ≤ A) (hmul : b ≤ A * val 0x3F7FFFFE) (hmax : b ≤ val 0x7F7FFFFF) : b ≤ val r := by
  rcases Nat.eq_or_lt_of_le (show r ≤ 0x7F7FFFFF by omega) with rfl | hr'
  · exact hmax
  have hn : 0x800000 ≤ r := by
    by_contra hcon
    exact absurd (hA.trans_lt hlt) (not_lt.2 (val_le (by omega) (by norm_num)))
  refine hmul.trans ?_
  rw [val_finite (show r + 1 < 0x7F800000 by omega)] at hlt
  rw [val_finite hr] at hle ⊢
  have hA0 : A ≠ ⊥ := fun h => by rw [h, le_bot_iff] at hle; exact EReal.coe_ne_bot _ hle
  have hA1 : A ≠ ⊤ := (hlt.trans (EReal.coe_lt_top _)).ne
  lift A to ℝ using ⟨hA1, hA0⟩
  rw [EReal.coe_lt_coe_iff] at hlt
  have hc : val 0x3F7FFFFE = ((8388607 / 8388608 : ℝ) : EReal) := by
    simp [val, Ideal.ieee, -EReal.coe_mul]
    norm_num
  rw [hc, ← EReal.coe_mul, EReal.coe_le_coe_iff]
  have hs : (2 ^ 23 : ℝ) * units (r + 1) ≤ (2 ^ 23 + 1) * units r := by exact_mod_cast units_succ hn
  have hu := ulp_pos 8 23
  have hu0 : (0 : ℝ) ≤ units r := Nat.cast_nonneg _
  have h1 : (2 ^ 23 : ℝ) * A ≤ (2 ^ 23 + 1) * (units r * ulp 8 23) := by
    nlinarith
  have h2 : 0 ≤ (units r : ℝ) * ulp 8 23 := by positivity
  nlinarith

end Cert.Search

end
-- ==== Proof.Select.lean ====
module

public import Idealize.ShloMosaic.PureOps.Ideal
public import Mathlib.Algebra.BigOperators.Fin
public import Mathlib.Data.EReal.Operations

/-! The sum of the `k` greatest entries of a descending list, computed from a threshold. -/

@[expose] public section

noncomputable section

namespace Cert.Select

/-- A natural multiple of a non-negative extended real is the sum of that many copies. -/
theorem natCast_mul_eq_nsmul (j : ℕ) (x : EReal) : ((j : ℝ) : EReal) * x = j • x := by
  simp [EReal.nsmul_eq_mul]

/-- The sum of the first `k` entries of a descending list is the sum of the entries above `thr` plus `thr` once for every
    one of the `k` not above it, when `thr` lies between the `k`-th entry and the next one. -/
theorem sum_top {n k : ℕ} (hk : k ≤ n) (s : Fin n → EReal) (thr : EReal)
    (hin : ∀ i : Fin n, i.val < k → thr ≤ s i) (hout : ∀ i : Fin n, k ≤ i.val → s i ≤ thr) :
    (Finset.univ.filter fun i : Fin n => thr < s i).card ≤ k ∧
    (∑ i : Fin n, if thr < s i then s i else 0)
      + (((k - (Finset.univ.filter fun i : Fin n => thr < s i).card : ℕ) : ℝ) : EReal) * thr
      = ∑ i : Fin k, s (i.castLE hk) := by
  obtain ⟨d, rfl⟩ := Nat.exists_eq_add_of_le hk
  have hlow : ∀ i : Fin d, ¬ thr < s (Fin.natAdd k i) := fun i => not_lt.2 (hout _ (by simp))
  have hcard : (Finset.univ.filter fun i : Fin (k + d) => thr < s i).card
      = (Finset.univ.filter fun i : Fin k => thr < s (Fin.castAdd d i)).card := by
    rw [Finset.card_filter, Finset.card_filter, Fin.sum_univ_add]
    simp [hlow]
  have hsum : (∑ i : Fin (k + d), if thr < s i then s i else 0)
      = ∑ i : Fin k, if thr < s (Fin.castAdd d i) then s (Fin.castAdd d i) else 0 := by
    rw [Fin.sum_univ_add]
    simp [hlow]
  rw [hcard, hsum]
  have hle : (Finset.univ.filter fun i : Fin k => thr < s (Fin.castAdd d i)).card ≤ k := by
    simpa using Finset.card_filter_le (Finset.univ : Finset (Fin k)) fun i => thr < s (Fin.castAdd d i)
  refine ⟨hle, ?_⟩
  have hrest : (((k - (Finset.univ.filter fun i : Fin k => thr < s (Fin.castAdd d i)).card : ℕ) : ℝ) : EReal) * thr
      = ∑ i : Fin k, if thr < s (Fin.castAdd d i) then 0 else thr := by
    rw [natCast_mul_eq_nsmul, Finset.sum_ite, Finset.sum_const_zero, zero_add, Finset.sum_const]
    congr 1
    have := Finset.card_filter_add_card_filter_not (s := (Finset.univ : Finset (Fin k))) fun i => thr < s (Fin.castAdd d i)
    simp only [Finset.card_univ, Fintype.card_fin] at this
    omega
  rw [hrest, ← Finset.sum_add_distrib]
  refine Finset.sum_congr rfl fun i _ => ?_
  have h1 : s (Fin.castLE hk i) = s (Fin.castAdd d i) := rfl
  rw [h1]
  split
  · simp
  · next h =>
    rw [zero_add]
    exact le_antisymm (hin _ (by simp)) (not_lt.1 h)

end Cert.Select

end
-- ==== Proof.Rank.lean ====
module

public import proofs.«01_k».proof.Proof.Search
public import proofs.«01_k».proof.Proof.Select
public import Mathlib.Order.Interval.Finset.Fin

/-! The kernel's threshold formula against the sum of the `k` greatest losses, over the extended reals. -/

@[expose] public section

noncomputable section

namespace Cert.Rank

open Cert.Search Cert.Select

/-- In a descending list, at least `k` entries reach `v` exactly when the `k`-th entry does. -/
theorem count_ge {n k : ℕ} (hk : k < n) (s : Fin n → EReal) (hs : ∀ i j : Fin n, i < j → s j ≤ s i) (v : EReal) :
    k + 1 ≤ (Finset.univ.filter fun i : Fin n => v ≤ s i).card ↔ v ≤ s ⟨k, hk⟩ := by
  constructor
  · intro h
    by_contra hv
    have hsub : (Finset.univ.filter fun i : Fin n => v ≤ s i) ⊆ Finset.Iio ⟨k, hk⟩ := by
      intro i hi
      rw [Finset.mem_filter] at hi
      rw [Finset.mem_Iio]
      by_contra hlt
      rcases eq_or_lt_of_le (not_lt.1 hlt) with e | e
      · exact hv (e ▸ hi.2)
      · exact hv (hi.2.trans (hs _ _ e))
    have := Finset.card_le_card hsub
    rw [Fin.card_Iio] at this
    simp only at this
    omega
  · intro hv
    have hsub : Finset.Iic ⟨k, hk⟩ ⊆ Finset.univ.filter fun i : Fin n => v ≤ s i := by
      intro i hi
      rw [Finset.mem_Iic] at hi
      rw [Finset.mem_filter]
      rcases eq_or_lt_of_le hi with e | e
      · exact ⟨Finset.mem_univ _, e ▸ hv⟩
      · exact ⟨Finset.mem_univ _, hv.trans (hs _ _ e)⟩
    have := Finset.card_le_card hsub
    rw [Fin.card_Iic] at this
    exact this

/-- A sum of extended reals that are not minus infinity, one of which is plus infinity, is plus infinity. -/
theorem sum_eq_top {ι : Type} (S : Finset ι) (f : ι → EReal) (hb : ∀ i ∈ S, f i ≠ ⊥) (ht : ∃ i ∈ S, f i = ⊤) :
    ∑ i ∈ S, f i = ⊤ := by
  classical
  obtain ⟨i, hi, hf⟩ := ht
  rw [← Finset.add_sum_erase S f hi, hf]
  refine EReal.top_add_of_ne_bot ?_
  suffices h : ∀ T : Finset ι, (∀ i ∈ T, f i ≠ ⊥) → ∑ i ∈ T, f i ≠ ⊥ from
    h _ fun j hj => hb j (Finset.mem_of_mem_erase hj)
  intro T
  induction T using Finset.induction_on with
  | empty => simp
  | insert a T ha ih =>
    intro h
    rw [Finset.sum_insert ha, Ne, EReal.add_eq_bot_iff, not_or]
    exact ⟨h _ (Finset.mem_insert_self _ _), ih fun j hj => h _ (Finset.mem_insert_of_mem hj)⟩

/-- The losses clipped below at zero, as the kernel keeps them. -/
def clip (x : EReal) : EReal := max x 0

/-- The kernel's sum from a threshold: the clipped losses above it, and the threshold as often as `k` exceeds their number. -/
def fromThreshold {n : ℕ} (k : ℕ) (l : Fin n → EReal) (thr : EReal) : EReal :=
  (∑ i, if thr < clip (l i) then clip (l i) else 0)
    + ((((k : ℤ) - ((Finset.univ.filter fun i => thr < clip (l i)).card : ℤ) : ℤ) : ℝ) : EReal) * thr

/-- How many clipped losses reach the number a pattern denotes. -/
def reach {n : ℕ} (l : Fin n → EReal) (c : ℕ) : ℕ := (Finset.univ.filter fun i => val c ≤ clip (l i)).card

variable {n : ℕ} (l : Fin n → EReal) (σ : Equiv.Perm (Fin n))

/-- Counting through a permutation. -/
theorem card_perm (p : EReal → Prop) [DecidablePred p] :
    (Finset.univ.filter fun i => p (l i)).card = (Finset.univ.filter fun i => p (l (σ i))).card := by
  rw [Finset.card_filter, Finset.card_filter]
  exact (Equiv.sum_comp σ fun i => if p (l i) then 1 else 0).symm

theorem lt_clip {thr x : EReal} (h : 0 ≤ thr) : thr < clip x ↔ thr < x := by
  unfold clip; rw [lt_max_iff]
  exact ⟨fun g => g.resolve_right (not_lt.2 h), Or.inl⟩

theorem le_clip {thr x : EReal} (h : 0 < thr) : thr ≤ clip x ↔ thr ≤ x := by
  unfold clip; rw [le_max_iff]
  exact ⟨fun g => g.resolve_right (not_le.2 h), Or.inl⟩

/-- The finite case: a threshold between the two neighbouring order statistics gives the sum of the `k` greatest losses. -/
theorem fromThreshold_eq {k : ℕ} (hk : k ≤ n) {thr : EReal} (h0 : 0 ≤ thr)
    (hin : ∀ i : Fin n, i.val < k → thr ≤ l (σ i)) (hout : ∀ i : Fin n, k ≤ i.val → l (σ i) ≤ thr) :
    fromThreshold k l thr = ∑ i : Fin k, l (σ (i.castLE hk)) := by
  obtain ⟨hle, hsum⟩ := sum_top hk (fun i => l (σ i)) thr hin hout
  rw [← hsum]
  unfold fromThreshold
  have e1 : (∑ i, if thr < clip (l i) then clip (l i) else 0) = ∑ i, if thr < l (σ i) then l (σ i) else 0 := by
    rw [← Equiv.sum_comp σ]
    refine Finset.sum_congr rfl fun i _ => ?_
    by_cases h : thr < l (σ i)
    · rw [if_pos h, if_pos ((lt_clip h0).2 h), clip, max_eq_left (h0.trans h.le)]
    · rw [if_neg h, if_neg fun g => h ((lt_clip h0).1 g)]
  have e2 : (Finset.univ.filter fun i => thr < clip (l i)).card = (Finset.univ.filter fun i => thr < l (σ i)).card := by
    rw [card_perm l σ fun x => thr < clip x]
    congr 1
    exact Finset.filter_congr fun i _ => lt_clip h0
  rw [e1, e2]
  congr 3
  rw [Nat.cast_sub hle]
  push_cast
  rfl

/-- The infinite case: when the `k`-th greatest loss is plus infinity, both sides are. -/
theorem fromThreshold_bot {k : ℕ} (hk : k < n) (hk0 : 0 < k) (ht : ∀ i : Fin n, i.val < k → l (σ i) = ⊤) :
    fromThreshold k l ⊥ = ∑ i : Fin k, l (σ (i.castLE hk.le)) := by
  have hpos : ∀ x, (⊥ : EReal) < clip x := fun x => (EReal.bot_lt_zero).trans_le (le_max_right _ _)
  have hr : ∑ i : Fin k, l (σ (i.castLE hk.le)) = ⊤ :=
    sum_eq_top _ _ (fun i _ => by rw [ht _ (by simp)]; exact top_ne_bot) ⟨⟨0, hk0⟩, Finset.mem_univ _, ht _ (by simpa using hk0)⟩
  rw [hr]
  unfold fromThreshold
  have e1 : (∑ i, if ⊥ < clip (l i) then clip (l i) else 0) = ⊤ := by
    refine sum_eq_top _ _ (fun i _ => by rw [if_pos (hpos _)]; exact (hpos _).ne') ⟨σ ⟨0, hk0.trans hk⟩, Finset.mem_univ _, ?_⟩
    rw [if_pos (hpos _), ht _ (by simpa using hk0)]; rfl
  have e2 : (Finset.univ.filter fun i => ⊥ < clip (l i)).card = n := by simp [hpos]
  rw [e1, e2, EReal.coe_mul_bot_of_neg (by exact_mod_cast (by omega : (k : ℤ) - (n : ℤ) < 0))]
  rfl

/-- The search's acceptance test is the comparison with the `k`-th greatest loss. -/
theorem reach_iff {k : ℕ} (hk : k < n) (hs : ∀ i j : Fin n, i < j → l (σ j) ≤ l (σ i)) {c : ℕ} (hc : 0 < val c) :
    k + 1 ≤ reach l c ↔ val c ≤ l (σ ⟨k, hk⟩) := by
  unfold reach
  rw [card_perm l σ fun x => val c ≤ clip x, ← count_ge hk (fun i => l (σ i)) hs]
  rw [Finset.filter_congr fun i _ => le_clip hc]

/-- What the search's result must satisfy after `k` trips, whichever of the two cases. -/
def Found (A : EReal) (k a : ℕ) : Prop :=
  (A = ⊤ ∧ a + 2 ^ (31 - k) = 2 ^ 31) ∨ (A < ⊤ ∧ Inv A k a)

theorem found_zero {A : EReal} (hA : 0 ≤ A) : Found A 0 0 := by
  rcases eq_or_lt_of_le (le_top : A ≤ ⊤) with h | h
  · exact Or.inl ⟨h, by norm_num⟩
  · exact Or.inr ⟨h, inv_zero hA⟩

theorem found_lt {A : EReal} {k a : ℕ} (h : Found A k a) : a < 2 ^ 31 := by
  rcases h with ⟨-, h⟩ | ⟨-, h⟩
  · have := Nat.two_pow_pos (31 - k); omega
  · have := h.2.1; omega

theorem found_dvd {A : EReal} {k a : ℕ} (h : Found A k a) : 2 ^ (31 - k) ∣ a := by
  rcases h with ⟨-, h⟩ | ⟨-, h⟩
  · exact (Nat.dvd_add_left dvd_rfl).1 (h ▸ pow_dvd_pow 2 (by omega))
  · exact h.1

/-- Each trip of the search keeps it. -/
theorem found_step {k : ℕ} (hk : k < n) (hs : ∀ i j : Fin n, i < j → l (σ j) ≤ l (σ i)) {t a : ℕ} (ht : t < 31)
    (h : Found (l (σ ⟨k, hk⟩)) t a) :
    Found (l (σ ⟨k, hk⟩)) (t + 1) (step (fun c => k + 1 ≤ reach l c) t a) := by
  rcases h with ⟨hA, h⟩ | ⟨hA, h⟩
  · refine Or.inl ⟨hA, ?_⟩
    have hok : ∀ c, k + 1 ≤ reach l c := by
      intro c
      unfold reach
      rw [card_perm l σ fun x => val c ≤ clip x]
      have := (count_ge hk (fun i => l (σ i)) hs (val c)).2 (by rw [hA]; exact le_top)
      refine this.trans (Finset.card_le_card fun i hi => ?_)
      rw [Finset.mem_filter] at hi ⊢
      exact ⟨hi.1, hi.2.trans (le_max_left _ _)⟩
    rw [step, if_pos (hok _)]
    have e : 31 - t = (30 - t) + 1 := by omega
    rw [e, pow_succ] at h
    rw [show 31 - (t + 1) = 30 - t by omega]
    omega
  · exact Or.inr ⟨hA, inv_step hA _ (fun c h0 hc => reach_iff l σ hk hs (val_pos h0 hc)) ht h⟩

/-- The kernel's formula at the pattern the search ends at is the sum of the `k + 1` greatest losses, under the separation
    the precondition states. -/
theorem fromThreshold_found {k : ℕ} (hk : k + 1 < n) (hs : ∀ i j : Fin n, i < j → l (σ j) ≤ l (σ i)) {r : ℕ}
    (h : Found (l (σ ⟨k, by omega⟩)) 31 r) (hA : val 0x00800000 ≤ l (σ ⟨k, by omega⟩))
    (hgap : l (σ ⟨k, by omega⟩) = ⊤ ∨ (l (σ ⟨k + 1, hk⟩) ≤ l (σ ⟨k, by omega⟩) * val 0x3F7FFFFE ∧ l (σ ⟨k + 1, hk⟩) ≤ val 0x7F7FFFFF)) :
    fromThreshold (k + 1) l (val r) = ∑ i : Fin (k + 1), l (σ (i.castLE hk.le)) := by
  have hge : ∀ i : Fin n, i.val < k + 1 → l (σ ⟨k, by omega⟩) ≤ l (σ i) := by
    intro i hi
    rcases Nat.eq_or_lt_of_le (Nat.lt_succ_iff.1 hi) with e | e
    · exact le_of_eq (by congr 2; exact Fin.ext e.symm)
    · exact hs _ _ e
  rcases h with ⟨hT, h⟩ | ⟨hT, h⟩
  · rw [show r = 0x7FFFFFFF by omega, val_nan]
    exact fromThreshold_bot l σ hk (by omega) fun i hi => top_le_iff.1 (hT ▸ hge i hi)
  · obtain ⟨h1, h2, h3⟩ := inv_last h
    obtain ⟨hm, hx⟩ := hgap.resolve_left hT.ne
    have hb := le_found h1 h2 h3 hA hm hx
    refine fromThreshold_eq l σ hk.le (val_zero ▸ val_le (Nat.zero_le _) (by omega)) (fun i hi => h2.trans (hge i hi)) fun i hi => ?_
    rcases Nat.eq_or_lt_of_le hi with e | e
    · exact (le_of_eq (by congr 2; exact Fin.ext e.symm)).trans hb
    · exact (hs ⟨k + 1, hk⟩ i e).trans hb

end Cert.Rank

end
-- ==== Proof.KSearch.lean ====
module

public import proofs.«01_k».proof.Proof.IBody
public import proofs.«01_k».proof.Proof.Rank
public import Idealize.ShloMosaic.Lib.WordSum
public import Idealize.ShloMosaic.Lib.WordCmp
public import Idealize.ShloMosaic.Lib.WordArith.Masks
public import Idealize.ShloMosaic.Lib.ValueIdx
public import Idealize.ShloMosaic.PureOps.Ideal.Laws

/-! The kernel's search and its closing formula, in terms of the losses its scratch holds. -/

@[expose] public section

noncomputable section

namespace Cert.KSearch

open Cert.KernelIdeal Cert.KernelIdeal.Gen Cert.KernelIdeal.Hand Idealize.ShloMosaic Idealize.ShloMosaic.ValueIdx
open Cert.Rank Cert.Search

/-! ## Counting and summing a whole array -/

/-- A shape whose axes all have one position has one index. -/
theorem sub1 (i j : S1.Idx) : i = j := by
  funext a
  match a with
  | ⟨0, _⟩ =>
    refine Fin.ext ?_
    have h1 : (i 0).val < 1 := (i 0).isLt
    have h2 : (j 0).val < 1 := (j 0).isLt
    show (i 0).val = (j 0).val
    omega

/-- The one entry of an array of one entry, read back out of a wider shape of one entry. -/
theorem extract_one {α : Type} (z : S1.Idx → α) (j : S1.Idx) :
    extractAt ![0, 0, 0] (shapeCast S1x1x1 z shapeCasts_S1_S1x1x1) inpos_S1x1x1_p0_0_0 = z j := congrArg z (sub1 _ _)

/-- The kernel's count of the set bits of a whole array. -/
theorem count_apply (x : IVec S8192x128 1) :
    (extractAt ![0, 0, 0] (shapeCast S1x1x1 (multiReductionI .add [1, 2] S1
      (shapeCast S1x8192x128 (extui 32 x natLt_1_32) shapeCasts_S8192x128_S1x8192x128) 0#32 reduces_S1x8192x128_S1 rfl)
      shapeCasts_S1_S1x1x1) inpos_S1x1x1_p0_0_0).toNat = (Finset.univ.filter fun y : S8192x128.Idx => x y = 1#1).card := by
  have hb : ∀ b : BitVec 1, (b.setWidth 32).toNat = if b = 1#1 then 1 else 0 := by decide
  have hsum : ∀ j : S1.Idx, ∑ i ∈ Finset.univ.filter (fun i => reduces_S1x8192x128_S1.drop i = j),
      (shapeCast S1x8192x128 (extui 32 x natLt_1_32) shapeCasts_S8192x128_S1x8192x128 i).toNat
        = (Finset.univ.filter fun y : S8192x128.Idx => x y = 1#1).card := by
    intro j
    rw [Finset.filter_true_of_mem fun i _ => sub1 _ _]
    have e := Equiv.sum_comp (Shape.reshapeEquiv shapeCasts_S8192x128_S1x8192x128) fun y : S8192x128.Idx => ((x y).setWidth 32).toNat
    refine Eq.trans e ?_
    rw [Finset.card_filter]
    exact Finset.sum_congr rfl fun y _ => hb _
  have hcard : (Finset.univ.filter fun y : S8192x128.Idx => x y = 1#1).card < 2 ^ 32 := by
    refine (Finset.card_le_univ _).trans_lt ?_
    rw [Fintype.card_congr (idxEquiv2 (n0 := 8192) (n1 := 128))]
    simp
  rw [extract_one _ (ix1 0)]
  exact (WordSum.toNat_multiReductionI_add _ _ _ _ (by rw [hsum]; exact hcard)).trans (hsum _)

/-- The kernel's sum of a whole array. -/
theorem sum_apply (x : FVec Ideal S8192x128 .f32) :
    extractAt ![0, 0, 0] (shapeCast S1x1x1 (multiReduction .add [1, 2] S1
      (shapeCast S1x8192x128 x shapeCasts_S8192x128_S1x8192x128) 0x00000000#32 reduces_S1x8192x128_S1 (.inl rfl) rfl)
      shapeCasts_S1_S1x1x1) inpos_S1x1x1_p0_0_0 = ∑ y : S8192x128.Idx, x y := by
  rw [extract_one _ (ix1 0)]
  refine (Ideal.multiReduction_add_total _ _ _ (fun b => by match b with | ⟨0, _⟩ => rfl) _ _ _).trans ?_
  exact Equiv.sum_comp (Shape.reshapeEquiv shapeCasts_S8192x128_S1x8192x128) x

/-! ## The losses through a numbering of the array's places -/

variable {n : ℕ} (x : Vec Ideal S8192x128 .f32) (l : Fin n → EReal) (e : S8192x128.Idx ≃ Fin n)

/-- A count over the array is the count over the samples. -/
theorem card_samples (p : EReal → Prop) [DecidablePred p] (hx : ∀ y, x y = clip (l (e y))) :
    (Finset.univ.filter fun y => p (x y)).card = (Finset.univ.filter fun i => p (clip (l i))).card := by
  rw [Finset.card_filter, Finset.card_filter, ← Equiv.sum_comp e]
  exact Finset.sum_congr rfl fun y _ => by rw [hx]

/-- A pattern's number, as the kernel bitcasts it. -/
theorem ofBits_val (c : ℕ) : (Scalar.ofBits (F := Ideal) .f32 (BitVec.ofNat 32 c) : EReal) = val c := rfl

/-- The word a trip tries: the pattern found so far with one bit more. -/
theorem candidate {k a : ℕ} (hk : k < 31) (hd : 2 ^ (31 - k) ∣ a) (ha : a < 2 ^ 31) :
    Scalar.ori (BitVec.ofNat 32 a) (Scalar.shli 1#32 (Scalar.subi 30#32 (Scf.iv 0#32 1#32 k))) = BitVec.ofNat 32 (a + 2 ^ (30 - k)) := by
  have hiv : (Scf.iv 0#32 1#32 k).toNat = k := WordArith.toNat_iv_zero_one k (by omega)
  have hs : (Scalar.subi 30#32 (Scf.iv 0#32 1#32 k)).toNat = 30 - k := by
    show (30#32 - Scf.iv 0#32 1#32 k).toNat = _
    rw [BitVec.toNat_sub, hiv]
    show (2 ^ 32 - k + 30) % 2 ^ 32 = _
    omega
  have hp : 2 ^ (30 - k) < 2 ^ 31 := Nat.pow_lt_pow_right (by norm_num) (by omega)
  have hsh : (Scalar.shli 1#32 (Scalar.subi 30#32 (Scf.iv 0#32 1#32 k))).toNat = 2 ^ (30 - k) := by
    show (if _ then _ else _ : BitVec 32).toNat = _
    rw [if_pos (by rw [hs]; omega)]
    show (1#32 <<< (Scalar.subi 30#32 (Scf.iv 0#32 1#32 k)).toNat).toNat = _
    rw [hs, BitVec.toNat_shiftLeft, Nat.shiftLeft_eq]
    show 1 * 2 ^ (30 - k) % 2 ^ 32 = _
    rw [one_mul, Nat.mod_eq_of_lt (by omega)]
  obtain ⟨q, rfl⟩ := hd
  apply BitVec.eq_of_toNat_eq
  show (BitVec.ofNat 32 _ ||| _).toNat = _
  rw [BitVec.toNat_or, hsh, BitVec.toNat_ofNat, BitVec.toNat_ofNat, Nat.mod_eq_of_lt (by omega), Nat.mod_eq_of_lt (by omega),
    Nat.two_pow_add_eq_or_of_lt (Nat.pow_lt_pow_right (by norm_num) (by omega))]

/-- A trip's count: how many losses reach the number tried. -/
theorem count_step {k : Fin k0_t1_loop.trips} {a : ℕ} (hk : k.val < 31) (hd : 2 ^ (31 - k.val) ∣ a) (ha : a < 2 ^ 31)
    (hx : ∀ y, x y = clip (l (e y))) :
    (extractAt ![0, 0, 0] (k0_pay2 x k (BitVec.ofNat 32 a)) inpos_S1x1x1_p0_0_0).toNat = reach l (a + 2 ^ (30 - k.val)) := by
  unfold k0_pay2
  dsimp only
  rw [count_apply, candidate hk hd ha]
  unfold reach
  rw [← card_samples x l e (fun z => val (a + 2 ^ (30 - k.val)) ≤ z) hx]
  refine congrArg Finset.card (Finset.filter_congr fun y _ => ?_)
  show BitVec.ofBool (decide (val (a + 2 ^ (30 - k.val)) ≤ x y)) = 1#1 ↔ _
  by_cases h : val (a + 2 ^ (30 - k.val)) ≤ x y
  · simp [h]
  · simp [h]

/-- One trip is one step of the search over patterns. -/
theorem searchStep_eq {k : Fin k0_t1_loop.trips} {a : ℕ} (hk : k.val < 31) (hd : 2 ^ (31 - k.val) ∣ a) (ha : a < 2 ^ 31)
    (hn : n ≤ 2 ^ 20) (hx : ∀ y, x y = clip (l (e y))) :
    searchStep x k (BitVec.ofNat 32 a) = BitVec.ofNat 32 (step (fun c => 734002 + 1 ≤ reach l c) k.val a) := by
  unfold searchStep
  rw [candidate hk hd ha]
  have hc := count_step x l e hk hd ha hx
  have hle : reach l (a + 2 ^ (30 - k.val)) ≤ 2 ^ 20 := by
    refine le_trans ?_ hn
    have := Finset.card_le_univ (Finset.univ.filter fun i => val (a + 2 ^ (30 - k.val)) ≤ clip (l i))
    rwa [Fintype.card_fin] at this
  generalize extractAt ![0, 0, 0] (k0_pay2 x k (BitVec.ofNat 32 a)) inpos_S1x1x1_p0_0_0 = w at hc ⊢
  have hw : w.toInt = (reach l (a + 2 ^ (30 - k.val)) : ℤ) := by
    rw [BitVec.toInt_eq_toNat_of_lt (by omega), hc]
  unfold step
  have hq : Scalar.cmpi .sge w 734003#32 = BitVec.ofBool (decide ((734003 : ℤ) ≤ w.toInt)) := rfl
  rw [hq]
  by_cases h : 734002 + 1 ≤ reach l (a + 2 ^ (30 - k.val))
  · rw [if_pos h, decide_eq_true (by omega)]
    exact select_one _ _
  · rw [if_neg h, decide_eq_false (by omega)]
    exact select_zero _ _

/-- The search ends at the greatest pattern that 734003 losses reach. -/
theorem search_found (σ : Equiv.Perm (Fin n)) (hk : 734002 < n) (hn : n ≤ 2 ^ 20) (hs : ∀ i j : Fin n, i < j → l (σ j) ≤ l (σ i))
    (hA : 0 ≤ l (σ ⟨734002, hk⟩)) (hx : ∀ y, x y = clip (l (e y))) :
    ∃ a, search x = BitVec.ofNat 32 a ∧ Found (l (σ ⟨734002, hk⟩)) 31 a := by
  have ht : k0_t1_loop.trips = 31 := by decide
  unfold search
  rw [Scf.fold_eq]
  have := fold_inv (fun k w => ∃ a, w = BitVec.ofNat 32 a ∧ Found (l (σ ⟨734002, hk⟩)) k a) (searchStep x) 0#32
    ⟨0, rfl, found_zero hA⟩ (fun k w hw => by
      obtain ⟨a, rfl, ha⟩ := hw
      have hk31 : k.val < 31 := ht ▸ k.isLt
      exact ⟨_, searchStep_eq x l e hk31 (found_dvd ha) (found_lt ha) hn hx, found_step l σ hk hs hk31 ha⟩)
  rw [show Found (l (σ ⟨734002, hk⟩)) 31 = Found (l (σ ⟨734002, hk⟩)) k0_t1_loop.trips by rw [ht]]
  exact this

/-- How many more losses are wanted than a count, as the kernel converts it to a float. -/
theorem sub_toInt (w : BitVec 32) (c : ℕ) (h : w.toNat = c) (hc : c ≤ 2 ^ 20) :
    (Scalar.sitofp (F := Ideal) .f32 (Scalar.subi 734003#32 w) : EReal) = ((((734003 : ℕ) : ℤ) - (c : ℤ) : ℤ) : ℝ) := by
  show (((734003#32 - w).toInt : ℝ) : EReal) = _
  have hw : w.toInt = (c : ℤ) := by rw [BitVec.toInt_eq_toNat_of_lt (by omega), h]
  have h7 : (734003#32 : BitVec 32).toInt = 734003 := by decide
  have : (734003#32 - w).toInt = ((734003 : ℕ) : ℤ) - (c : ℤ) := by
    rw [BitVec.toInt_sub, hw, h7, Int.bmod_eq_of_le (by omega) (by omega)]
    norm_num
  rw [this]

/-- Where the array exceeds the number a pattern denotes. -/
def above (a : ℕ) : IVec S8192x128 1 :=
  cmpf (F := Ideal) (φ := .f32) .ogt x (broadcast S8192x128 (Scalar.ofBits (F := Ideal) .f32 (BitVec.ofNat 32 a)))

theorem above_apply (a : ℕ) (y : S8192x128.Idx) : above x a y = BitVec.ofBool (decide (val a < x y)) := rfl

/-- The closing formula: the sum from the threshold, divided by the number of losses kept. -/
theorem pay3_apply (a : ℕ) (hn : n ≤ 2 ^ 20) (hx : ∀ y, x y = clip (l (e y))) (i : S1x1.Idx) :
    k0_pay3 x (BitVec.ofNat 32 a) i = Ideal.div (fromThreshold 734003 l (val a)) (Ideal.ieee 8 23 0x49333330#32) := by
  unfold k0_pay3
  dsimp only
  rw [sum_apply]
  show Ideal.div (_ + _ * _) (Ideal.ieee 8 23 0x49333330#32) = _
  generalize Ideal.ieee 8 23 0x49333330#32 = q
  refine congrArg (fun z => Ideal.div z q) ?_
  unfold fromThreshold
  have hm := above_apply x a
  refine congrArg₂ (fun p q : EReal => p + q) ?_ ?_
  · rw [← Equiv.sum_comp e]
    refine Finset.sum_congr rfl fun y _ => ?_
    rw [← hx]
    show Scalar.select (above x a y) (x y) (Ideal.ofBits .f32 0x00000000#32) = _
    rw [hm, Ideal.ofBits_zero_f32]
    by_cases h : val a < x y
    · rw [if_pos h, decide_eq_true h]; exact select_one _ _
    · rw [if_neg h, decide_eq_false h]; exact select_zero _ _
  · refine congrArg (fun z : EReal => z * val a) ?_
    have hc := count_apply (above x a)
    have hf : (Finset.univ.filter fun y => above x a y = 1#1).card
        = (Finset.univ.filter fun i => val a < clip (l i)).card := by
      rw [← card_samples x l e (fun z => val a < z) hx]
      refine congrArg Finset.card (Finset.filter_congr fun y _ => ?_)
      rw [hm]
      by_cases h : val a < x y
      · simp [h]
      · simp [h]
    rw [hf] at hc
    have hle : (Finset.univ.filter fun i => val a < clip (l i)).card ≤ 2 ^ 20 := by
      refine le_trans ?_ hn
      have := Finset.card_le_univ (Finset.univ.filter fun i => val a < clip (l i))
      rwa [Fintype.card_fin] at this
    exact sub_toInt _ _ hc hle

end Cert.KSearch

end
-- ==== Proof.KBlock.lean ====
module

public import proofs.«01_k».proof.Proof.IBody
public import proofs.«01_k».proof.Proof.Rank
public import Idealize.ShloMosaic.Lib.MatmulPlain
public import Idealize.ShloMosaic.Lib.Pipeline.Value
public import Idealize.ShloMosaic.Lib.ValueIdx
public import Idealize.ShloMosaic.PureOps.Ideal.Laws

/-! The losses of one block of 32 × 128 samples: the kernel lays a sample's 21 scores next to each other in a row of 2688
    lanes and sums over a sample's lanes by a product with a zero-one matrix. -/

@[expose] public section

noncomputable section

namespace Cert.KBlock

open Cert.KernelIdeal Cert.KernelIdeal.Gen Cert.KernelIdeal.Hand Idealize.ShloMosaic Idealize.ShloMosaic.ValueIdx
open Cert.Rank Idealize.ShloMosaic.Pipeline

/-- Lane of score `c` of the `j`-th sample of a row. -/
def lane (j : Fin 128) (c : Fin 21) : Fin 2688 := ⟨21 * j.val + c.val, by omega⟩

/-- The sample a lane belongs to, within its row. -/
def sample (L : Fin 2688) : Fin 128 := ⟨L.val / 21, by omega⟩

/-- A sum over the lanes of a row is the sum over samples of the sums over their scores. -/
theorem sum_lanes {M : Type} [AddCommMonoid M] (f : Fin 2688 → M) : ∑ L, f L = ∑ j : Fin 128, ∑ c : Fin 21, f (lane j c) := by
  rw [← Finset.sum_product', ← Equiv.sum_comp (finProdFinEquiv (m := 128) (n := 21)).symm.symm]
  refine Finset.sum_congr rfl fun p _ => congrArg f (Fin.ext ?_)
  show p.2.val + 21 * p.1.val = 21 * p.1.val + p.2.val
  omega

/-- Against the zero-one matrix that marks a sample's lanes, a row sums to that sample's part of it. -/
theorem sum_marked (f g : Fin 2688 → EReal) (j : Fin 128) (hg : ∀ L, g L = if sample L = j then 1 else 0) :
    ∑ L, f L * g L = ∑ c : Fin 21, f (lane j c) := by
  have hs : ∀ (j' : Fin 128) (c : Fin 21), sample (lane j' c) = j' := fun j' c => Fin.ext (by
    show (21 * j'.val + c.val) / 21 = j'.val
    omega)
  rw [sum_lanes]
  rw [Finset.sum_eq_single j]
  · refine Finset.sum_congr rfl fun c _ => ?_
    rw [hg, hs, if_pos rfl, mul_one]
  · intro j' _ hj
    refine Finset.sum_eq_zero fun c _ => ?_
    rw [hg, hs, if_neg hj, mul_zero]
  · intro h
    exact absurd (Finset.mem_univ _) h

theorem dot1 : dot_S32x128_S128x2688_S32x2688_1_0_0_1_n_n = DotDims.plain 32 128 2688 := rfl
theorem dot2 : dot_S32x2688_S2688x128_S32x128_1_0_0_1_n_n = DotDims.plain 32 2688 128 := rfl

/-- A product against the marking matrix, read at a sample. -/
theorem marked_apply (x : FVec Ideal S32x2688 .bf16) (w : FVec Ideal S2688x128 .bf16) (r : Fin 32) (j : Fin 128)
    (hw : ∀ L, w (ix2 L j) = if sample L = j then 1 else 0) :
    FloatOps.matmul dot_S32x2688_S2688x128_S32x128_1_0_0_1_n_n none x w (constant S32x128 .f32 0x00000000#32) (ix2 r j)
      = ∑ c : Fin 21, x (ix2 r (lane j c)) := by
  rw [dot2]
  refine (Ideal.matmul_plain_apply _ _ _ _ _ _).trans ?_
  rw [sum_marked (fun L => x (ix2 r L)) (fun L => w (ix2 L j)) j hw]
  show Ideal.ofBits .f32 0x00000000#32 + _ = _
  rw [Ideal.ofBits_zero_f32, zero_add]

/-- The product that repeats a sample's class over its lanes, read at a lane. -/
theorem repeat_apply (x : FVec Ideal S32x128 .bf16) (b : FVec Ideal S128x2688 .bf16) (r : Fin 32) (L : Fin 2688)
    (hb : ∀ j, b (ix2 j L) = if sample L = j then 1 else 0) :
    FloatOps.matmul dot_S32x128_S128x2688_S32x2688_1_0_0_1_n_n none x b (constant S32x2688 .f32 0x00000000#32) (ix2 r L)
      = x (ix2 r (sample L)) := by
  rw [dot1]
  refine (Ideal.matmul_plain_apply _ _ _ _ _ _).trans ?_
  rw [Finset.sum_eq_single (sample L)]
  · rw [hb, if_pos rfl, mul_one]
    show Ideal.ofBits .f32 0x00000000#32 + _ = _
    rw [Ideal.ofBits_zero_f32, zero_add]
  · intro j _ hj
    rw [hb, if_neg hj.symm, mul_zero]
  · intro h
    exact absurd (Finset.mem_univ _) h

/-- The losses of a block, the buffers holding the scores, the classes as numbers, the marking matrix, its transpose and
    each lane's class number: at a sample, the clipped log-sum-exp of its scores less the score of its class. -/
theorem blockLoss_apply (x0 : Vec Ideal S32x2688 .f32) (x1 : Vec Ideal S32x128 .bf16) (x2 : Vec Ideal S2688x128 .bf16)
    (x3 : Vec Ideal S128x2688 .bf16) (x4 : Vec Ideal S8x2688 .f32) (r : Fin 32) (j : Fin 128) (t : Fin 21)
    (h1 : x1 (ix2 r j) = ((t.val : ℝ) : EReal))
    (h2 : ∀ L, x2 (ix2 L j) = if sample L = j then 1 else 0)
    (h3 : ∀ L j', x3 (ix2 j' L) = if sample L = j' then 1 else 0)
    (h4 : ∀ L : Fin 2688, x4 (ix2 0 L) = (((L.val % 21 : ℕ) : ℝ) : EReal)) :
    blockLoss x0 x1 x2 x3 x4 (ix2 r j)
      = clip (Ideal.log (∑ c : Fin 21, Ideal.exp (x0 (ix2 r (lane j c)))) - x0 (ix2 r (lane j t))) := by
  unfold blockLoss k0_pay1
  simp only [shapeCast_self]
  show max (Ideal.log (FloatOps.matmul (F := Ideal) (φ₁ := .bf16) (φ₂ := .bf16) dot_S32x2688_S2688x128_S32x128_1_0_0_1_n_n none _ x2 _ (ix2 r j))
    - FloatOps.matmul (F := Ideal) (φ₁ := .bf16) (φ₂ := .bf16) dot_S32x2688_S2688x128_S32x128_1_0_0_1_n_n none _ x2 _ (ix2 r j)) (Ideal.ofBits .f32 0x00000000#32) = _
  rw [marked_apply _ _ _ _ h2, marked_apply _ _ _ _ h2, Ideal.ofBits_zero_f32]
  refine congrArg (fun z => max (Ideal.log (∑ c : Fin 21, Ideal.exp (x0 (ix2 r (lane j c)))) - z) 0) ?_
  have hs : ∀ c : Fin 21, sample (lane j c) = j := fun c => Fin.ext (by
    show (21 * j.val + c.val) / 21 = j.val
    omega)
  have hm : ∀ c : Fin 21, (lane j c).val % 21 = c.val := fun c => by
    show (21 * j.val + c.val) % 21 = c.val
    omega
  have hstep : ∀ c : Fin 21, Scalar.select (Ideal.cmp .oeq
      (FloatOps.matmul (F := Ideal) (φ₁ := .bf16) (φ₂ := .bf16) dot_S32x128_S128x2688_S32x2688_1_0_0_1_n_n none x1 x3 (constant S32x2688 .f32 0x00000000#32) (ix2 r (lane j c)))
      (broadcastTo S32x2688 (VecWindow.window x4 ![0, 0] S1x2688.size inb_S8x2688_S1x2688_0_0) broadcasts_S1x2688_S32x2688 (ix2 r (lane j c))))
      (x0 (ix2 r (lane j c))) (Ideal.ofBits .f32 0x00000000#32) = if c = t then x0 (ix2 r (lane j c)) else 0 := by
    intro c
    rw [repeat_apply _ _ _ _ fun j' => h3 (lane j c) j', hs, h1,
      broadcastTo_apply _ broadcasts_S1x2688_S32x2688 (ix2 r (lane j c)) (ix2 (0 : Fin 1) (lane j c)) (by
        intro a
        match a with
        | ⟨0, _⟩ => rfl
        | ⟨1, _⟩ => rfl)]
    have hw : VecWindow.window x4 ![0, 0] S1x2688.size inb_S8x2688_S1x2688_0_0 (ix2 (0 : Fin 1) (lane j c)) = ((c.val : ℝ) : EReal) := by
      have h := h4 (lane j c)
      rw [hm] at h
      refine Eq.trans (congrArg x4 ?_) h
      funext a
      match a with
      | ⟨0, _⟩ => rfl
      | ⟨1, _⟩ => exact Fin.ext (by show 0 + 1 * (lane j c).val = (lane j c).val; omega)
    rw [hw, Ideal.ofBits_zero_f32]
    by_cases e : c = t
    · rw [if_pos e, e]
      simp [Ideal.cmp, Scalar.select]
    · rw [if_neg e]
      have e' : ¬ (t.val = c.val) := fun h => e (Fin.ext h.symm)
      simp [Ideal.cmp, Scalar.select, e']
  refine Eq.trans (Finset.sum_congr rfl fun c _ => hstep c) ?_
  rw [Finset.sum_ite_eq' Finset.univ t]
  simp

end Cert.KBlock
-- ==== Proof.KHost.lean ====
module

public import proofs.«01_k».proof.Proof.IBody
public import proofs.«01_k».proof.Proof.KBlock
public import Idealize.ShloMosaic.Lib.StableHlo.Run
public import Idealize.ShloMosaic.Lib.Pipeline.Value
public import Idealize.ShloMosaic.Lib.Routing.Words

/-! What the arrays that the kernel's windows read hold when the kernel starts: the host operations before it. -/

@[expose] public section

noncomputable section

namespace Cert.KHost

open Cert.KernelIdeal Cert.KernelIdeal.Gen Idealize.ShloMosaic Idealize.ShloMosaic.TcCoe

variable (m : (ℓ : Loc nD τ sig) → Buf (Elt Ideal) ℓ) (c : Dev nD)

/-- The lane numbers of a row divided by 21, rounded down. -/
def segments : IVec S2688 32 := Routing.pyDiv bcast_S_S2688 (iotaInDim S2688 32 0) (constantI S_ 32 21#32)

/-- The lane numbers of a row modulo 21. -/
def classes : IVec S2688 32 := Routing.pyRem bcast_S_S2688 (iotaInDim S2688 32 0) (constantI S_ 32 21#32)

/-- The marking matrix as the host builds it. -/
def marks : FVec Ideal S2688x128 .bf16 :=
  uitofp .bf16 (cmpi .eq
    (broadcastInDim S2688x128 ![0, 1] bcast_S2688x1_S2688x128_0_1 (broadcastInDim S2688x1 ![0] bcast_S2688_S2688x1_0 segments))
    (broadcastInDim S2688x128 ![0, 1] bcast_S1x128_S2688x128_0_1 (broadcastInDim S1x128 ![1] bcast_S128_S1x128_1 (iotaInDim S128 32 0))))

theorem V_v0 : V m c main_v0 = shapeCast S8192x2688 (m ((c : Thread nD τ).loc main_arg0)) shapeCasts_S1048576x21_S8192x2688 := by
  show StableHlo.after (List.flatten [hostOps0, hostOps0_1, hostOps0_2, hostOps0_3, hostOps0_4]) _ (Proc.devRef .tc main_v0) = _
  simp only [hostOps0, hostOps0_1, hostOps0_2, hostOps0_3, hostOps0_4, List.flatten_cons, List.flatten_nil, List.append_nil, List.cons_append, List.nil_append]
  after_results_simp
  rfl

theorem V_v2 : V m c main_v2 = (sitofp .bf16 (shapeCast S8192x128 (m ((c : Thread nD τ).loc main_arg1)) shapeCasts_S1048576_S8192x128) : FVec Ideal S8192x128 .bf16) := by
  show StableHlo.after (List.flatten [hostOps0, hostOps0_1, hostOps0_2, hostOps0_3, hostOps0_4]) _ (Proc.devRef .tc main_v2) = _
  simp only [hostOps0, hostOps0_1, hostOps0_2, hostOps0_3, hostOps0_4, List.flatten_cons, List.flatten_nil, List.append_nil, List.cons_append, List.nil_append]
  after_results_simp
  rfl

theorem V_v11 : V m c main_v11 = marks := by
  show StableHlo.after (List.flatten [hostOps0, hostOps0_1, hostOps0_2, hostOps0_3, hostOps0_4]) _ (Proc.devRef .tc main_v11) = _
  simp only [hostOps0, hostOps0_1, hostOps0_2, hostOps0_3, hostOps0_4, List.flatten_cons, List.flatten_nil, List.append_nil, List.cons_append, List.nil_append]
  after_results_simp
  rfl

theorem V_v12 : V m c main_v12 = transpose S128x2688 [1, 0] marks transposes_S2688x128_S128x2688_1_0 := by
  show StableHlo.after (List.flatten [hostOps0, hostOps0_1, hostOps0_2, hostOps0_3, hostOps0_4]) _ (Proc.devRef .tc main_v12) = _
  simp only [hostOps0, hostOps0_1, hostOps0_2, hostOps0_3, hostOps0_4, List.flatten_cons, List.flatten_nil, List.append_nil, List.cons_append, List.nil_append]
  after_results_simp
  rfl

theorem V_v17 : V m c main_v17 = broadcastInDim S8x2688 ![0, 1] bcast_S1x2688_S8x2688_0_1
    (broadcastInDim S1x2688 ![1] bcast_S2688_S1x2688_1 (sitofp .f32 classes : FVec Ideal S2688 .f32)) := by
  show StableHlo.after (List.flatten [hostOps0, hostOps0_1, hostOps0_2, hostOps0_3, hostOps0_4]) _ (Proc.devRef .tc main_v17) = _
  simp only [hostOps0, hostOps0_1, hostOps0_2, hostOps0_3, hostOps0_4, List.flatten_cons, List.flatten_nil, List.append_nil, List.cons_append, List.nil_append]
  after_results_simp
  rfl

end Cert.KHost
-- ==== Proof.Loss.lean ====
module

public import Idealize.ShloMosaic.Lib.ValueIdxCore
public import Idealize.ShloMosaic.PureOps.Ideal

/-! The loss of one sample, in the extended reals. -/

@[expose] public section

noncomputable section

namespace Cert.Loss

open Idealize.ShloMosaic Idealize.ShloMosaic.ValueIdx

/-- The samples' scores: a row of 21 per sample. -/
abbrev Scores := (⟨2, ![1048576, 21]⟩ : Shape).Idx → EReal
/-- The samples' classes, as words. -/
abbrev Classes := (⟨1, ![1048576]⟩ : Shape).Idx → BitVec 32

/-- Every class is one of the 21. -/
def InRange (t : Classes) : Prop := ∀ r, 0 ≤ (t r).toInt ∧ (t r).toInt < 21

/-- Sample `r`'s class, a column of the scores. -/
def column (t : Classes) (r : Fin 1048576) : Fin 21 := ⟨(t (ix1 r)).toNat % 21, Nat.mod_lt _ (by decide)⟩

/-- Sample `r`'s loss: the logarithm of the sum of the exponentials of its scores, less the score of its class. -/
def loss (x : Scores) (t : Classes) (r : Fin 1048576) : EReal :=
  Ideal.log (∑ c : Fin 21, Ideal.exp (x (ix2 r c))) - x (ix2 r (column t r))

/-- A class in range, read signed, is its column. -/
theorem toInt_eq (t : Classes) (h : InRange t) (r : Fin 1048576) : (t (ix1 r)).toInt = (column t r).val := by
  obtain ⟨h0, h1⟩ := h (ix1 r)
  have hn : (t (ix1 r)).toInt = ((t (ix1 r)).toNat : ℤ) := by
    rw [BitVec.toInt_eq_toNat_cond] at h0 ⊢
    split at h0 <;> rename_i hc
    · rw [if_pos hc]
    · have := (t (ix1 r)).isLt; omega
  rw [hn] at h1 ⊢
  show _ = (((t (ix1 r)).toNat % 21 : ℕ) : ℤ)
  rw [Nat.mod_eq_of_lt (by omega)]

/-- A class in range, read unsigned, is its column. -/
theorem toNat_eq (t : Classes) (h : InRange t) (r : Fin 1048576) : (t (ix1 r)).toNat = (column t r).val := by
  have := toInt_eq t h r
  rw [BitVec.toInt_eq_toNat_cond] at this
  have h2 := (column t r).isLt
  split at this <;> omega

end Cert.Loss

end
-- ==== Proof.KRead.lean ====
module

public import proofs.«01_k».proof.Proof.KHost
public import proofs.«01_k».proof.Proof.Loss

/-! The kernel's losses as functions of its arguments: the windows' arrays and blocks read at an index. -/

@[expose] public section

noncomputable section

namespace Cert.KRead

open Cert.KernelIdeal Cert.KernelIdeal.Gen Cert.KernelIdeal.Hand Idealize.ShloMosaic Idealize.ShloMosaic.TcCoe
open Idealize.ShloMosaic.ValueIdx
open Cert.KHost Cert.KBlock Cert.Loss

/-! ## The host's arrays at an index -/

/-- Lane `L`'s segment number is the number of its sample. -/
theorem segments_apply (L : Fin 2688) : segments (ix1 L) = BitVec.ofNat 32 (L.val / 21) :=
  Routing.pyDiv_ap bcast_S_S2688 (iotaInDim S2688 32 0) (constantI S_ 32 21#32) (ix1 L) (a := L.val) (b := 21) rfl rfl
    (by omega) (by omega) (by omega)

/-- Lane `L`'s class number. -/
theorem classes_apply (L : Fin 2688) : classes (ix1 L) = BitVec.ofNat 32 (L.val % 21) :=
  Routing.pyRem_ap bcast_S_S2688 (iotaInDim S2688 32 0) (constantI S_ 32 21#32) (ix1 L) (a := L.val) (b := 21) rfl rfl
    (by omega) (by omega) (by omega)

/-- The marking matrix is one at a sample's lanes and zero elsewhere. -/
theorem marks_apply (L : Fin 2688) (j : Fin 128) : marks (ix2 L j) = if sample L = j then 1 else 0 := by
  have h1 : broadcastInDim S2688x128 ![0, 1] bcast_S2688x1_S2688x128_0_1 (broadcastInDim S2688x1 ![0] bcast_S2688_S2688x1_0 segments) (ix2 L j)
      = BitVec.ofNat 32 (L.val / 21) := by
    rw [broadcastInDim_apply _ bcast_S2688x1_S2688x128_0_1 _ (ix2 L j) (ix2 L (0 : Fin 1)) (by
        intro a
        match a with
        | ⟨0, _⟩ => rfl
        | ⟨1, _⟩ => rfl),
      broadcastInDim_apply _ bcast_S2688_S2688x1_0 _ (ix2 L (0 : Fin 1)) (ix1 L) (by
        intro a
        match a with
        | ⟨0, _⟩ => rfl)]
    exact segments_apply L
  have h2 : broadcastInDim S2688x128 ![0, 1] bcast_S1x128_S2688x128_0_1 (broadcastInDim S1x128 ![1] bcast_S128_S1x128_1 (iotaInDim S128 32 0)) (ix2 L j)
      = BitVec.ofNat 32 j.val := by
    rw [broadcastInDim_apply _ bcast_S1x128_S2688x128_0_1 _ (ix2 L j) (ix2 (0 : Fin 1) j) (by
        intro a
        match a with
        | ⟨0, _⟩ => rfl
        | ⟨1, _⟩ => rfl),
      broadcastInDim_apply _ bcast_S128_S1x128_1 _ (ix2 (0 : Fin 1) j) (ix1 j) (by
        intro a
        match a with
        | ⟨0, _⟩ => rfl)]
    rfl
  show ((((IntOp.cmpi .eq (broadcastInDim S2688x128 ![0, 1] bcast_S2688x1_S2688x128_0_1 (broadcastInDim S2688x1 ![0] bcast_S2688_S2688x1_0 segments) (ix2 L j))
    (broadcastInDim S2688x128 ![0, 1] bcast_S1x128_S2688x128_0_1 (broadcastInDim S1x128 ![1] bcast_S128_S1x128_1 (iotaInDim S128 32 0)) (ix2 L j))).toNat : ℝ)) : EReal) = _
  rw [h1, h2]
  have hb : ∀ a b : ℕ, a < 2 ^ 32 → b < 2 ^ 32 → (IntOp.cmpi .eq (BitVec.ofNat 32 a) (BitVec.ofNat 32 b)).toNat = if a = b then 1 else 0 := by
    intro a b ha hb
    rw [WordCmp.cmpi_eq_ofNat (w := 32) ha hb]
    by_cases h : a = b <;> simp [h]
  rw [hb _ _ (by omega) (by omega)]
  have hiff : sample L = j ↔ L.val / 21 = j.val := ⟨fun h => by rw [← h]; rfl, fun h => Fin.ext h⟩
  by_cases h : L.val / 21 = j.val
  · rw [if_pos h, if_pos (hiff.mpr h)]; simp
  · rw [if_neg h, if_neg (fun h' => h (hiff.mp h'))]; simp

variable (m : (ℓ : Loc nD τ sig) → Buf (Elt Ideal) ℓ) (c : Dev nD)

/-- The kernel's first argument, the scores. -/
abbrev scores : Scores := m ((c : Thread nD τ).loc main_arg0)
/-- The kernel's second argument, the classes. -/
abbrev targets : Classes := m ((c : Thread nD τ).loc main_arg1)

/-- The sample of the scratch's row `R` and column `j`. -/
def sampleAt (R : Fin 8192) (j : Fin 128) : Fin 1048576 := ⟨128 * R.val + j.val, by omega⟩

theorem scores_apply (R : Fin 8192) (j : Fin 128) (k : Fin 21) :
    V m c main_v0 (ix2 R (lane j k)) = scores m c (ix2 (sampleAt R j) k) := by
  rw [V_v0]
  refine shapeCast_apply (scores m c) shapeCasts_S1048576x21_S8192x2688 (ix2 R (lane j k)) (ix2 (sampleAt R j) k) ?_
  rw [Shape.rowMajor_val_two, Shape.rowMajor_val_two]
  show (128 * R.val + j.val) * 21 + k.val = R.val * 2688 + (21 * j.val + k.val)
  omega

theorem targets_apply (h : InRange (targets m c)) (R : Fin 8192) (j : Fin 128) :
    V m c main_v2 (ix2 R j) = (((column (targets m c) (sampleAt R j)).val : ℝ) : EReal) := by
  rw [V_v2]
  have e : shapeCast S8192x128 (targets m c) shapeCasts_S1048576_S8192x128 (ix2 R j) = targets m c (ix1 (sampleAt R j)) := by
    refine shapeCast_apply (targets m c) shapeCasts_S1048576_S8192x128 (ix2 R j) (ix1 (sampleAt R j)) ?_
    rw [Shape.rowMajor_val_two, Shape.rowMajor_val_one]
    show 128 * R.val + j.val = R.val * 128 + j.val
    omega
  show (((shapeCast S8192x128 (targets m c) shapeCasts_S1048576_S8192x128 (ix2 R j)).toInt : ℝ) : EReal) = _
  rw [e, toInt_eq _ h]
  simp

theorem marks_turned (L : Fin 2688) (j : Fin 128) : V m c main_v12 (ix2 j L) = if sample L = j then (1 : EReal) else 0 := by
  rw [V_v12]
  refine Eq.trans (transpose_apply _ marks transposes_S2688x128_S128x2688_1_0 (ix2 j L) (ix2 L j) ?_) (marks_apply L j)
  intro a
  match a with
  | ⟨0, _⟩ => rfl
  | ⟨1, _⟩ => rfl

theorem classes_row (r : Fin 8) (L : Fin 2688) : V m c main_v17 (ix2 r L) = (((L.val % 21 : ℕ) : ℝ) : EReal) := by
  rw [V_v17, broadcastInDim_apply _ bcast_S1x2688_S8x2688_0_1 _ (ix2 r L) (ix2 (0 : Fin 1) L) (by
        intro a
        match a with
        | ⟨0, _⟩ => rfl
        | ⟨1, _⟩ => rfl),
      broadcastInDim_apply _ bcast_S2688_S1x2688_1 _ (ix2 (0 : Fin 1) L) (ix1 L) (by
        intro a
        match a with
        | ⟨0, _⟩ => rfl)]
  show (((classes (ix1 L)).toInt : ℝ) : EReal) = _
  rw [classes_apply]
  have hn : (BitVec.ofNat 32 (L.val % 21)).toInt = ((L.val % 21 : ℕ) : ℤ) := by
    rw [BitVec.toInt_eq_toNat_of_lt] <;> simp only [BitVec.toNat_ofNat] <;> omega
  rw [hn, Int.cast_natCast]

/-! ## The blocks -/

theorem index0 (t : Fin cfg0.N) : win0_0.index t 0 = t.val ∧ win0_0.index t 1 = 0 := by
  have ht : t.val < 256 := Nat.lt_of_lt_of_eq t.isLt N_0
  have e0 : (grid0.coords t 0).val = t.val / 1 % 256 := Pipeline.Grid.coords_val t 0 (by decide) rfl
  refine ⟨?_, rfl⟩
  show (BitVec.ofNat 32 (grid0.coords t 0).val).toNat = t.val
  rw [e0, BitVec.toNat_ofNat]
  omega

theorem index1 (t : Fin cfg0.N) : win0_1.index t 0 = t.val ∧ win0_1.index t 1 = 0 := by
  have ht : t.val < 256 := Nat.lt_of_lt_of_eq t.isLt N_0
  have e0 : (grid0.coords t 0).val = t.val / 1 % 256 := Pipeline.Grid.coords_val t 0 (by decide) rfl
  refine ⟨?_, rfl⟩
  show (BitVec.ofNat 32 (grid0.coords t 0).val).toNat = t.val
  rw [e0, BitVec.toNat_ofNat]
  omega

/-- Row `r` of block `t`, as a row of the whole. -/
def rowAt (t : Fin cfg0.N) (r : Fin 32) : Fin 8192 :=
  ⟨32 * t.val + r.val, by have ht : t.val < 256 := Nat.lt_of_lt_of_eq t.isLt N_0; omega⟩

theorem block0 (t : Fin cfg0.N) (r : Fin 32) (L : Fin 2688) : iblk m c 0 t (ix2 r L) = V m c main_v0 (ix2 (rowAt t r) L) := by
  unfold iblk
  rw [View.read_apply]
  refine congrArg (V m c main_v0) ?_
  funext a
  apply Fin.ext
  match a with
  | ⟨0, _⟩ => show win0_0.index t 0 * 32 + 1 * r.val = 32 * t.val + r.val; rw [(index0 t).1]; omega
  | ⟨1, _⟩ => show win0_0.index t 1 * 2688 + 1 * L.val = L.val; rw [(index0 t).2]; omega

theorem block1 (t : Fin cfg0.N) (r : Fin 32) (j : Fin 128) : iblk m c 1 t (ix2 r j) = V m c main_v2 (ix2 (rowAt t r) j) := by
  unfold iblk
  rw [View.read_apply]
  refine congrArg (V m c main_v2) ?_
  funext a
  apply Fin.ext
  match a with
  | ⟨0, _⟩ => show win0_1.index t 0 * 32 + 1 * r.val = 32 * t.val + r.val; rw [(index1 t).1]; omega
  | ⟨1, _⟩ => show win0_1.index t 1 * 128 + 1 * j.val = j.val; rw [(index1 t).2]; omega

theorem block2 (t : Fin cfg0.N) (L : Fin 2688) (j : Fin 128) : iblk m c 2 t (ix2 L j) = V m c main_v11 (ix2 L j) := by
  unfold iblk
  rw [View.read_apply]
  refine congrArg (V m c main_v11) ?_
  funext a
  apply Fin.ext
  match a with
  | ⟨0, _⟩ => show 0 * 2688 + 1 * L.val = L.val; omega
  | ⟨1, _⟩ => show 0 * 128 + 1 * j.val = j.val; omega

theorem block3 (t : Fin cfg0.N) (j : Fin 128) (L : Fin 2688) : iblk m c 3 t (ix2 j L) = V m c main_v12 (ix2 j L) := by
  unfold iblk
  rw [View.read_apply]
  refine congrArg (V m c main_v12) ?_
  funext a
  apply Fin.ext
  match a with
  | ⟨0, _⟩ => show 0 * 128 + 1 * j.val = j.val; omega
  | ⟨1, _⟩ => show 0 * 2688 + 1 * L.val = L.val; omega

theorem block4 (t : Fin cfg0.N) (r : Fin 8) (L : Fin 2688) : iblk m c 4 t (ix2 r L) = V m c main_v17 (ix2 r L) := by
  unfold iblk
  rw [View.read_apply]
  refine congrArg (V m c main_v17) ?_
  funext a
  apply Fin.ext
  match a with
  | ⟨0, _⟩ => show 0 * 8 + 1 * r.val = r.val; omega
  | ⟨1, _⟩ => show 0 * 2688 + 1 * L.val = L.val; omega

/-! ## The losses -/

/-- A block's losses are the samples' losses, clipped. -/
theorem pointLoss_apply (h : InRange (targets m c)) (t : Fin cfg0.N) (r : Fin 32) (j : Fin 128) :
    pointLoss m c t (ix2 r j) = Cert.Rank.clip (loss (scores m c) (targets m c) (sampleAt (rowAt t r) j)) := by
  unfold pointLoss
  rw [blockLoss_apply _ _ _ _ _ r j (column (targets m c) (sampleAt (rowAt t r) j))
    ((block1 m c t r j).trans (targets_apply m c h _ j))
    (fun L => (block2 m c t L j).trans ((congrFun (V_v11 m c) _).trans (marks_apply L j)))
    (fun L j' => (block3 m c t j' L).trans (marks_turned m c L j'))
    (fun L => (block4 m c t 0 L).trans (classes_row m c 0 L))]
  have e : ∀ k, iblk m c 0 t (ix2 r (lane j k)) = scores m c (ix2 (sampleAt (rowAt t r) j) k) :=
    fun k => (block0 m c t r (lane j k)).trans (scores_apply m c _ j k)
  unfold loss
  simp only [e]

/-- The scratch's positions and the samples. -/
def position : S8192x128.Idx ≃ Fin 1048576 where
  toFun y := sampleAt ⟨(y 0).val, idx2_lt0 y⟩ ⟨(y 1).val, idx2_lt1 y⟩
  invFun k := ix2 ⟨k.val / 128, by omega⟩ ⟨k.val % 128, by omega⟩
  left_inv y := by
    have h1 := idx2_lt1 y
    funext a
    apply Fin.ext
    match a with
    | ⟨0, _⟩ => show (128 * (y 0).val + (y 1).val) / 128 = (y 0).val; omega
    | ⟨1, _⟩ => show (128 * (y 0).val + (y 1).val) % 128 = (y 1).val; omega
  right_inv k := Fin.ext (by show 128 * (k.val / 128) + k.val % 128 = k.val; omega)

/-- The scratch holds the samples' losses, clipped. -/
theorem losses_apply (h : InRange (targets m c)) (y : S8192x128.Idx) :
    losses m c y = Cert.Rank.clip (loss (scores m c) (targets m c) (position y)) := by
  have h0 := idx2_lt0 y
  have h1 := idx2_lt1 y
  unfold losses
  refine Eq.trans (congrArg (pointLoss m c _) (show _ = ix2 (⟨(y 0).val % 32, Nat.mod_lt _ (by omega)⟩ : Fin 32) (⟨(y 1).val, h1⟩ : Fin 128) from ?_)) ?_
  · funext a
    apply Fin.ext
    rw [Rect.unitLocal_val]
    match a with
    | ⟨0, _⟩ => show (y 0).val - 32 * ((y 0).val / 32) = (y 0).val % 32; omega
    | ⟨1, _⟩ => show (y 1).val - 0 = (y 1).val; omega
  · rw [pointLoss_apply m c h]
    refine congrArg (fun k => Cert.Rank.clip (loss (scores m c) (targets m c) k)) (Fin.ext ?_)
    show 128 * (32 * ((y 0).val / 32) + (y 0).val % 32) + (y 1).val = 128 * (y 0).val + (y 1).val
    omega

end Cert.KRead
-- ==== Proof.TopK.lean ====
module

public import proofs.«01_k».proof.Proof.Rank
public import Idealize.ShloMosaic.Lib.SortFacts

/-! The first entries of a descending sort, over the extended reals. -/

@[expose] public section

noncomputable section

namespace Cert.TopK

open Idealize.ShloMosaic

variable {n : ℕ}

/-- The order the sort of a list of extended reals uses: greater first. -/
def greater (l : Fin n → EReal) (a b : Fin n) : Bool := FloatOps.cmpfTotal (F := Ideal) (φ := .f32) .gt (l a) (l b) == 1#1

theorem greater_eq_false (l : Fin n → EReal) (a b : Fin n) : greater l a b = false ↔ l a ≤ l b := by
  have e : FloatOps.cmpfTotal (F := Ideal) (φ := .f32) .gt (l a) (l b) = if l b < l a then 1#1 else 0#1 := by
    show Ideal.cmp .ogt (l a) (l b) = _
    simp only [Ideal.cmp]
    by_cases h : l b < l a <;> simp [h]
  unfold greater
  rw [e]
  split
  · next h => simpa using h
  · next h => simpa using h

theorem greater_eq_true (l : Fin n → EReal) (a b : Fin n) : greater l a b = true ↔ l b < l a := by
  rw [← Bool.not_eq_false, greater_eq_false, not_le]

/-- The permutation that sorts a list of extended reals, greatest first. -/
def order (l : Fin n → EReal) : Equiv.Perm (Fin n) :=
  Equiv.ofBijective (sortedFrom (greater l)) ⟨sortedFrom_injective _, sortedFrom_surjective _⟩

/-- The list read through it descends. -/
theorem order_desc (l : Fin n → EReal) (i j : Fin n) (h : i < j) : l (order l j) ≤ l (order l i) := by
  have := sortedFrom_noInversion (greater l) (greater l)
    (fun a b g => (greater_eq_false l b a).2 ((greater_eq_true l a b).1 g).le) (fun _ _ g => g)
    (fun a b c hab hbc => (greater_eq_false l a c).2 (((greater_eq_false l a b).1 hab).trans ((greater_eq_false l b c).1 hbc)))
    i j h
  exact (greater_eq_false l _ _).1 this

/-- The first results of a sort of two lists together: the first list read through one self-map of the positions. -/
theorem sort2_fst {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j
      = x (Shape.Idx.ofFin (sortedFrom (fun a b => cmp (x (Shape.Idx.ofFin a), y (Shape.Idx.ofFin a))
          (x (Shape.Idx.ofFin b), y (Shape.Idx.ofFin b)) == 1#1) (j 0))) := by
  unfold Host.sort2
  simp

/-- Entry `j` of the greatest entries of a list is entry `j` of the list so sorted. -/
theorem topK_apply {k : ℕ} (x : FVec Ideal ⟨1, ![n]⟩ .f32) (h : (⟨1, ![n]⟩ : Shape).Slices (fun _ => 0) ⟨1, ![k]⟩)
    (j : (⟨1, ![k]⟩ : Shape).Idx) (i : Fin n) (hi : i.val = (j 0).val) :
    (Host.topK ⟨1, ![k]⟩ 0 (FloatOps.cmpfTotal (F := Ideal) (φ := .f32) .gt) x h).1 j
      = x (Shape.Idx.ofFin (order (fun i => x (Shape.Idx.ofFin i)) i)) := by
  unfold Host.topK
  simp only [extractStridedSlice]
  rw [sort2_fst]
  refine congrArg (fun p => x (Shape.Idx.ofFin p)) ?_
  exact congrArg (sortedFrom _) (Fin.ext (by rw [hi]; exact Nat.zero_add _))

end Cert.TopK

end
-- ==== Proof.KResult.lean ====
module

public import proofs.«01_k».proof.Proof.IFrame
public import proofs.«01_k».proof.Proof.KSearch
public import proofs.«01_k».proof.Proof.KRead
public import proofs.«01_k».proof.Proof.TopK
public import Idealize.ShloMosaic.Lib.StableHlo.Run
public import Idealize.ShloMosaic.Lib.Pipeline.Value

/-! What the kernel's program leaves in its result array. -/

@[expose] public section

noncomputable section

namespace Cert.KResult

open Cert.KernelIdeal Cert.KernelIdeal.Gen Cert.KernelIdeal.Hand Idealize.ShloMosaic Idealize.ShloMosaic.TcCoe
open Idealize.ShloMosaic.ValueIdx
open Cert.KRead Cert.Loss Cert.Rank Cert.Search

/-! ## The search's sum is the sum of the largest losses -/

/-- `Cert.Rank.fromThreshold_found` with the number of losses kept given by a name. -/
theorem threshold_sum {n k k' : ℕ} (hk' : k' = k + 1) (hk : k' < n) (l : Fin n → EReal) (σ : Equiv.Perm (Fin n))
    (hs : ∀ i j : Fin n, i < j → l (σ j) ≤ l (σ i)) {r : ℕ} (h : Found (l (σ ⟨k, by omega⟩)) 31 r)
    (hA : val 0x00800000 ≤ l (σ ⟨k, by omega⟩))
    (hgap : l (σ ⟨k, by omega⟩) = ⊤ ∨ (l (σ ⟨k', hk⟩) ≤ l (σ ⟨k, by omega⟩) * val 0x3F7FFFFE ∧ l (σ ⟨k', hk⟩) ≤ val 0x7F7FFFFF)) :
    fromThreshold k' l (val r) = ∑ i : Fin k', l (σ (i.castLE hk.le)) := by
  subst hk'
  exact fromThreshold_found l σ hk hs h hA hgap

variable (m : (ℓ : Loc nD τ sig) → Buf (Elt Ideal) ℓ) (ρ : Dev nD → PrngReg) (c : Dev nD)

/-- The result: the mean of the 734003 largest losses, given what the precondition says of them. -/
theorem result_apply (hr : InRange (targets m c))
    (hA : val 0x00800000 ≤ loss (scores m c) (targets m c) (Cert.TopK.order (loss (scores m c) (targets m c)) ⟨734002, by omega⟩))
    (hgap : loss (scores m c) (targets m c) (Cert.TopK.order (loss (scores m c) (targets m c)) ⟨734002, by omega⟩) = ⊤
      ∨ (loss (scores m c) (targets m c) (Cert.TopK.order (loss (scores m c) (targets m c)) ⟨734003, by omega⟩)
            ≤ loss (scores m c) (targets m c) (Cert.TopK.order (loss (scores m c) (targets m c)) ⟨734002, by omega⟩) * val 0x3F7FFFFE
        ∧ loss (scores m c) (targets m c) (Cert.TopK.order (loss (scores m c) (targets m c)) ⟨734003, by omega⟩) ≤ val 0x7F7FFFFF))
    (i : S1x1.Idx) :
    result m c i = Ideal.div (∑ k : Fin 734003, loss (scores m c) (targets m c)
      (Cert.TopK.order (loss (scores m c) (targets m c)) (k.castLE (by omega)))) (Ideal.ieee 8 23 0x49333330#32) := by
  have hx := losses_apply m c hr
  have hs := Cert.TopK.order_desc (loss (scores m c) (targets m c))
  have h0 : 0 ≤ loss (scores m c) (targets m c) (Cert.TopK.order (loss (scores m c) (targets m c)) ⟨734002, by omega⟩) :=
    (val_pos (by omega) (by omega)).le.trans hA
  obtain ⟨a, ha, hf⟩ := Cert.KSearch.search_found (losses m c) (loss (scores m c) (targets m c)) position
    (Cert.TopK.order (loss (scores m c) (targets m c))) (by omega) (by omega) hs h0 hx
  unfold result
  rw [ha]
  refine (Cert.KSearch.pay3_apply (losses m c) (loss (scores m c) (targets m c)) position a (by omega) hx i).trans ?_
  refine congrArg (fun z => Ideal.div z (Ideal.ieee 8 23 0x49333330#32)) ?_
  exact threshold_sum (by omega) (by omega) _ _ hs hf hA hgap

/-! ## The result array -/

/-- The last point. -/
def last : Fin cfg0.N := ⟨255, lt_of_lt_of_eq (by omega : 255 < 256) N_0.symm⟩

theorem sub11 (i j : S1x1.Idx) : i = j := by
  have a0 := idx2_lt0 i
  have a1 := idx2_lt1 i
  have b0 := idx2_lt0 j
  have b1 := idx2_lt1 j
  funext a
  apply Fin.ext
  match a with
  | ⟨0, _⟩ => show (i 0).val = (j 0).val; omega
  | ⟨1, _⟩ => show (i 1).val = (j 1).val; omega

/-- The one write-back of the result's window writes the result. -/
theorem flushed_eq (t : Fin cfg0.N) :
    (dats m 0 c).flushed 5 t = ((cfg0.win 5).blk t).view.read (Elt Ideal) (result m c) := by
  show (cfg0.win 5).cut (grid0.coords t) ((dats m 0 c).after 5 t) = _
  rw [after5]
  funext j
  rw [View.read_apply]
  exact congrArg (result m c) (sub11 ((cfg0.win 5).xinj (grid0.coords t) j) (((cfg0.win 5).blk t).view.emb j))

/-- After the run the result's array holds the result. -/
theorem final : (dats m 0 c).arrAt 5 cfg0.N = result m c :=
  (dats m 0 c).arrAt_eq_of_cover 5 (result m c) (fun t _ => flushed_eq m c t) fun i =>
    ⟨last, (flush0_5 last).mpr rfl, by
      show i ∈ ((View.whole main_v18).slice (win0_5.rect last)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-- The host's reshape of the result after the launch. -/
theorem tail : Pipeline.afterTail₀ cfgs (dats m) 0 (V0 m) [hostOps1] c main_v19 = shapeCast S_ (result m c) shapeCasts_S1x1_S_ := by
  unfold Pipeline.afterTail₀
  simp only [hostOps1, List.flatten_cons, List.flatten_nil, List.append_nil]
  after_results_simp
  refine congrArg (fun z => shapeCast S_ z shapeCasts_S1x1_S_) ?_
  exact (Pipeline.withArrays_arr spec0 winFacts0.arr_inj c (V0 m c) (fun w => (dats m 0 c).arrAt w cfg0.N) 5).trans (final m c)

/-- The run, read: the result at the result buffer, the arguments unchanged. -/
theorem run : θ_run defs (onTc (τ := τ) (main (F := Ideal))) ⟨m, fun _ => 0, ρ⟩ fun r => ∀ c : Dev nD,
    r.2.mem ((c : Thread nD τ).loc main_v19) = shapeCast S_ (result m c) shapeCasts_S1x1_S_
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c =>
    ⟨((h.1 c).2 main_v19 (by decide)).trans (tail m c), (h.2.1 c).1, (h.2.1 c).2⟩)
    (θ_run_and (run_main m ρ) (frame m ρ))

end Cert.KResult
-- ==== Proof.Gather.lean ====
module

public import Idealize.ShloMosaic.Lib.ValueIdxCore

/-! A gather that picks one entry of each row. -/

@[expose] public section

noncomputable section

namespace Cert.Gather

open Idealize.ShloMosaic Idealize.ShloMosaic.ValueIdx

/-- The dimension numbers of a gather of one entry per row of an `N` by `C` array, at a column given for each row. -/
abbrev perRow (N C : ℕ) (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- Its entry for row `r` is the array's at row `r` and the column given, when the column given is one of the array's. -/
theorem perRow_apply {α : Type} {N C w : ℕ}
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) (c : Fin C)
    (hc : (idx (takeIdx y)).toInt = c.val) :
    Host.gather (perRow N C wf) x idx y = x (ix2 ⟨(y 0).val, idx2_lt0 y⟩ c) := by
  unfold Host.gather
  congr 1
  funext a
  refine Fin.ext ?_
  show (perRow N C wf).start y idx a + (perRow N C wf).batchCoord y a + (perRow N C wf).offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (perRow N C wf).startIndexMap from List.mem_singleton.mpr rfl)]
    have hsi : (perRow N C wf).siIdx y ⟨List.idxOf (1 : Fin 2) (perRow N C wf).startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    show min (idx (takeIdx y)).toInt.toNat (C - 1) = c.val
    rw [hc]
    have := c.isLt
    omega

end Cert.Gather

end
-- ==== Proof.Lse.lean ====
module

public import Idealize.ShloMosaic.PureOps.Ideal

/-! The logarithm of a sum of exponentials, over the extended reals: subtracting a real first and adding it back after
    changes nothing. -/

@[expose] public section

noncomputable section

namespace Cert.Lse

open Idealize.ShloMosaic

/-- An exponential is not negative. -/
theorem exp_nonneg (x : EReal) : 0 ≤ Ideal.exp x := by
  induction x using EReal.rec with
  | bot => exact le_rfl
  | top => exact le_top
  | coe r => exact EReal.coe_nonneg.2 (Real.exp_pos r).le

/-- The exponential of a difference by a real is the exponential times a positive real. -/
theorem exp_sub (x : EReal) (c : ℝ) : Ideal.exp (x - (c : EReal)) = Ideal.exp x * ((Real.exp (-c) : ℝ) : EReal) := by
  induction x using EReal.rec with
  | bot => exact (zero_mul _).symm
  | top =>
    rw [EReal.top_sub_coe]
    exact (EReal.top_mul_of_pos (EReal.coe_pos.2 (Real.exp_pos _))).symm
  | coe r =>
    rw [← EReal.coe_sub]
    show ((Real.exp (r - c) : ℝ) : EReal) = ((Real.exp r : ℝ) : EReal) * _
    rw [← EReal.coe_mul, ← Real.exp_add, sub_eq_add_neg]

/-- The logarithm of a non-negative extended real times a positive real. -/
theorem log_mul (s : EReal) (hs : 0 ≤ s) (c : ℝ) :
    Ideal.log (s * ((Real.exp (-c) : ℝ) : EReal)) + (c : EReal) = Ideal.log s := by
  induction s using EReal.rec with
  | bot => exact absurd hs (by simp)
  | top =>
    rw [EReal.top_mul_of_pos (EReal.coe_pos.2 (Real.exp_pos _))]
    exact EReal.top_add_coe c
  | coe r =>
    rw [← EReal.coe_mul]
    have hr : 0 ≤ r := EReal.coe_nonneg.1 hs
    have he := Real.exp_pos (-c)
    show (if r * Real.exp (-c) ≤ 0 then (⊥ : EReal) else ((Real.log (r * Real.exp (-c)) : ℝ) : EReal)) + (c : EReal)
      = if r ≤ 0 then (⊥ : EReal) else ((Real.log r : ℝ) : EReal)
    rcases eq_or_lt_of_le hr with rfl | hr
    · simp
    · rw [if_neg (not_le.2 (mul_pos hr he)), if_neg (not_le.2 hr), Real.log_mul hr.ne' he.ne', Real.log_exp, ← EReal.coe_add]
      congr 1; ring

/-- A sum of products by a real, of non-negative extended reals. -/
theorem sum_mul {ι : Type} (S : Finset ι) (f : ι → EReal) (hf : ∀ i, 0 ≤ f i) (b : EReal) :
    ∑ i ∈ S, f i * b = (∑ i ∈ S, f i) * b := by
  classical
  induction S using Finset.induction_on with
  | empty => simp
  | insert a S ha ih =>
    rw [Finset.sum_insert ha, Finset.sum_insert ha, ih, EReal.right_distrib_of_nonneg (hf a) (Finset.sum_nonneg fun i _ => hf i)]

/-- Subtracting a real from every exponent and adding it to the logarithm. -/
theorem log_sum_exp_sub {ι : Type} (S : Finset ι) (f : ι → EReal) (c : ℝ) :
    Ideal.log (∑ i ∈ S, Ideal.exp (f i - (c : EReal))) + (c : EReal) = Ideal.log (∑ i ∈ S, Ideal.exp (f i)) := by
  simp only [exp_sub]
  rw [sum_mul S _ (fun i => exp_nonneg (f i)), log_mul _ (Finset.sum_nonneg fun i _ => exp_nonneg (f i))]

/-- What is subtracted: a number when it is finite, else zero. Either way it is a real. -/
theorem guard_real (x : EReal) : ∃ c : ℝ, (if max x (-x) < ⊤ then x else 0) = (c : EReal) := by
  induction x using EReal.rec with
  | bot => exact ⟨0, by simp⟩
  | top => exact ⟨0, by simp⟩
  | coe r =>
    refine ⟨r, ?_⟩
    rw [if_pos (by rw [← EReal.coe_neg]; exact max_lt (EReal.coe_lt_top _) (EReal.coe_lt_top _))]

end Cert.Lse

end
-- ==== Proof.RefLoss.lean ====
module

public import proofs.«01_k».proof.Proof.Gather
public import proofs.«01_k».proof.Proof.Loss
public import proofs.«01_k».proof.Proof.Lse
public import proofs.«01_k».proof.Proof.TopK
public import proofs.«01_k».proof.Proof.Gen.ReferenceIdeal.Read
public import Idealize.ShloMosaic.Lib.ReduceAll
public import Idealize.ShloMosaic.Lib.WordCmp

/-! What the reference's operations leave, in terms of the losses of the samples. -/

@[expose] public section

noncomputable section

namespace Cert.RefLoss

open Cert.ReferenceIdeal Cert.ReferenceIdeal.Gen Cert.ReferenceIdeal.Read Idealize.ShloMosaic Idealize.ShloMosaic.ValueIdx
open Cert.Loss

/-- A sum over the indices of a vector is the sum over its positions. -/
theorem sum_vec {n : ℕ} (f : (⟨1, ![n]⟩ : Shape).Idx → EReal) : ∑ j, f j = ∑ k : Fin n, f (ix1 k) :=
  (Fintype.sum_equiv ⟨fun a => ix1 a, fun i => i 0, fun _ => rfl, fun i => (eq_ix1 i).symm⟩ (fun k => f (ix1 k)) f fun _ => rfl).symm

/-- An index's row. -/
def row3 (i : S1048576x1x1.Idx) : Fin 1048576 := ⟨(i 0).val, (i 0).isLt⟩
/-- An index's row. -/
def row2 (i : S1048576x1.Idx) : Fin 1048576 := ⟨(i 0).val, (i 0).isLt⟩

/-- A class in range is its own index after the wrap of negative ones. -/
theorem wrapped (t : Classes) (h : InRange t) (i : S1048576x1x1.Idx) :
    val_main_call1_v5 (F := Ideal) t i = t (ix1 (row3 i)) := by
  rw [val_main_call1_v5_apply, val_main_call1_v4_apply, val_main_call1_v1_apply, val_main_v14_apply, val_main_call1_v0_apply,
    val_main_call1_c_apply]
  have hi : idx_main_v14 (idx_main_call1_v5 i) = ix1 (row3 i) := by
    funext a
    match a with
    | ⟨0, _⟩ =>
      refine Fin.ext ?_
      have h1 : (i 1).val < 1 := (i 1).isLt
      have h2 : (i 2).val < 1 := (i 2).isLt
      show (((i 0).val * 1 + (i 1).val) * 1 + (i 2).val) / 1 = (i 0).val
      omega
  rw [hi]
  obtain ⟨h0, -⟩ := h (ix1 (row3 i))
  have : IntOp.cmpi .slt (t (ix1 (row3 i))) 0#32 = 0#1 := by
    rw [WordCmp.cmpi_slt_eq, decide_eq_false]
    · rfl
    · show ¬ _ < (0 : ℤ)
      omega
  rw [this, select_zero]

/-- The score the reference picks for sample `r` is that of its class. -/
theorem picked (x : Scores) (t : Classes) (h : InRange t) (i : S1048576x1.Idx) :
    val_main_v15 (F := Ideal) x t i = x (ix2 (row2 i) (column t (row2 i))) := by
  rw [val_main_v15_apply]
  have hmask : val_main_call1_v12 (F := Ideal) t i = 1#1 := by
    unfold val_main_call1_v12
    refine Host.reduce_andi_one _ _ _ _ _ rfl fun j => ?_
    rw [val_main_call1_v11_apply, val_main_call1_v7_apply, val_main_call1_v10_apply, wrapped t h j, val_main_call1_v6_apply,
      val_main_call1_c_2_apply, val_main_call1_v9_apply, val_main_call1_v8_apply, val_main_call1_c_1_apply]
    obtain ⟨h0, h1⟩ := h (ix1 (row3 j))
    have e0 : IntOp.cmpi .sge (t (ix1 (row3 j))) 0#32 = 1#1 := by
      rw [WordCmp.cmpi_sge_eq, decide_eq_true]
      · rfl
      · exact h0
    have e1 : IntOp.cmpi .sle (t (ix1 (row3 j))) 20#32 = 1#1 := by
      rw [WordCmp.cmpi_sle_eq, decide_eq_true]
      · rfl
      · show _ ≤ (20 : ℤ)
        omega
    rw [e0, e1]
    rfl
  rw [hmask, select_one]
  refine Cert.Gather.perRow_apply gather_S1048576x21_S1048576x1x1_S1048576x1_n_1_0_0_1_2_11_wf x _ i _ ?_
  rw [wrapped t h]
  exact toInt_eq t h _

/-- What the reference subtracts from a row before its exponentials is a real. -/
theorem guarded (x : Scores) (i : S1048576x1.Idx) : ∃ c : ℝ, val_main_v5 (F := Ideal) x i = (c : EReal) := by
  obtain ⟨c, hc⟩ := Cert.Lse.guard_real (val_main_v1 (F := Ideal) x i)
  refine ⟨c, ?_⟩
  rw [← hc, val_main_v5_apply, val_main_v4_apply, val_main_v2_apply, val_main_v3_apply, val_main_cst_0_apply,
    val_main_call0_v1_apply]
  generalize val_main_v1 (F := Ideal) x i = y
  have htop : (FloatOps.ofBits .f32 0x7F800000#32 : Ideal .f32) = (⊤ : EReal) := by
    simp [Ideal.ofBits, Ideal.ieee]
  rw [htop]
  show Scalar.select (Ideal.cmp .olt (max y (-y)) ⊤) y (Ideal.ieee 8 23 0#32) = _
  have hz : Ideal.ieee 8 23 0#32 = 0 := by simp [Ideal.ieee]
  rw [hz]
  by_cases hy : max y (-y) < ⊤
  · rw [if_pos hy]
    have : Ideal.cmp .olt (max y (-y)) ⊤ = 1#1 := by simp only [Ideal.cmp, hy, decide_true]; rfl
    rw [this, select_one]
  · rw [if_neg hy]
    have : Ideal.cmp .olt (max y (-y)) ⊤ = 0#1 := by simp only [Ideal.cmp, hy, decide_false]; rfl
    rw [this, select_zero]

/-- The reference's logarithm of the sum of a row's exponentials: that of the row as it stands. -/
theorem lse (x : Scores) (r : Fin 1048576) :
    val_main_v13 (F := Ideal) x (ix1 r) = Ideal.log (∑ c : Fin 21, Ideal.exp (x (ix2 r c))) := by
  rw [val_main_v13_apply, val_main_v12_apply, val_main_v11_apply, val_main_v10_apply, val_main_v9_apply]
  have hi : idx_main_v13 (ix1 r) = ix2 r 0 := by
    funext a
    match a with
    | ⟨0, _⟩ => exact Fin.ext (Nat.div_one _)
    | ⟨1, _⟩ => rfl
  rw [hi]
  obtain ⟨c, hc⟩ := guarded x (ix2 r 0)
  have hk : ∀ k : Fin 21, val_main_v8 (F := Ideal) x (idx_main_v9 (idx_main_v10 (ix2 r 0)) k) = Ideal.exp (x (ix2 r k) - (c : EReal)) := by
    intro k
    rw [val_main_v8_apply, val_main_v7_apply, val_main_v6_apply]
    have h1 : idx_main_v6 (idx_main_v9 (idx_main_v10 (ix2 r 0)) k) = ix2 r 0 := by
      funext a
      match a with
      | ⟨0, _⟩ => rfl
      | ⟨1, _⟩ => rfl
    have h2 : idx_main_v9 (idx_main_v10 (ix2 r 0)) k = ix2 r k := by
      funext a
      match a with
      | ⟨0, _⟩ => rfl
      | ⟨1, _⟩ => rfl
    rw [h1, h2, hc]
    rfl
  rw [Finset.sum_congr rfl fun k _ => hk k, hc, val_main_cst_2_apply]
  have hz : (FloatOps.ofBits .f32 0x00000000#32 : Ideal .f32) = (0 : EReal) := by
    simp [Ideal.ofBits, Ideal.ieee]
  rw [hz]
  show Ideal.log (0 + ∑ k : Fin 21, Ideal.exp (x (ix2 r k) - (c : EReal))) + (c : EReal) = _
  rw [zero_add, Cert.Lse.log_sum_exp_sub]

/-- The reference's loss of sample `r` is `loss x t r`. -/
theorem losses (x : Scores) (t : Classes) (h : InRange t) (r : Fin 1048576) :
    val_main_v17 (F := Ideal) x t (ix1 r) = loss x t r := by
  rw [val_main_v17_apply, lse, val_main_v16_apply, picked x t h]
  have : row2 (idx_main_v16 (ix1 r)) = r := Fin.ext (Nat.div_one _)
  rw [this]
  rfl

/-- The reference's result: the sum of the 734003 greatest losses, divided by their number. -/
theorem result (x : Scores) (t : Classes) (h : InRange t) (i : S_.Idx) :
    val_main_v19 (F := Ideal) x t i = Ideal.div
      (∑ k : Fin 734003, loss x t (Cert.TopK.order (loss x t) (k.castLE (by omega)))) (Ideal.ieee 8 23 0x49333330#32) := by
  rw [val_main_v19_apply, val_main_v18_apply, val_main_cst_3_apply, val_main_cst_4_apply]
  have hz : (FloatOps.ofBits .f32 0x00000000#32 : Ideal .f32) = (0 : EReal) := by
    simp [Ideal.ofBits, Ideal.ieee]
  rw [hz]
  have hv : (fun i => val_main_v17 (F := Ideal) x t (Shape.Idx.ofFin i)) = loss x t := funext fun r => by
    rw [← losses x t h r]; congr 1; exact eq_ix1 _
  have hs : ∑ j : S734003.Idx, val_main_values (F := Ideal) x t j
      = ∑ k : Fin 734003, loss x t (Cert.TopK.order (loss x t) (k.castLE (by omega))) := by
    have e := sum_vec (val_main_values (F := Ideal) x t)
    rw [e]
    refine Finset.sum_congr rfl fun k _ => ?_
    unfold val_main_values
    rw [Cert.TopK.topK_apply (val_main_v17 (F := Ideal) x t) sliceFits_S1048576_S734003 (ix1 k) (k.castLE (by omega)) rfl, hv]
    exact congrFun hv _
  rw [hs]
  show Ideal.div (0 + _) _ = _
  rw [zero_add]
  rfl

end Cert.RefLoss

end
-- ==== Proof.PreRead.lean ====
module

public import proofs.«01_k».proof.Pre_separated
public import proofs.«01_k».proof.Proof.RefLoss
public import proofs.«01_k».proof.Proof.Search

/-! The precondition, read: the classes are in range, and the losses in order have a gap after the 734003rd. -/

@[expose] public section

noncomputable section

namespace Cert.PreRead

open Cert.Pre_separated Idealize.ShloMosaic Idealize.ShloMosaic.ValueIdx Cert.Loss

/-- The predicate's side conditions hold. -/
theorem facts : Cert.Pre_separated.Facts where
  reducesTo_S1048576x21_S1048576_d1 := Cert.ReferenceIdeal.Gen.facts.reducesTo_S1048576x21_S1048576_d1
  h_S_ := Cert.ReferenceIdeal.Gen.facts.h_S_
  bcast_S1048576_S1048576x1_0 := Cert.ReferenceIdeal.Gen.facts.bcast_S1048576_S1048576x1_0
  bcast_S_S1048576x1 := Cert.ReferenceIdeal.Gen.facts.bcast_S_S1048576x1
  shapeCasts_S1048576x1_S1048576x1x1 := Cert.ReferenceIdeal.Gen.facts.shapeCasts_S1048576x1_S1048576x1x1
  bcast_S_S1048576x1x1 := Cert.ReferenceIdeal.Gen.facts.bcast_S_S1048576x1x1
  bcast_S1_S1x1x1_2 := Cert.ReferenceIdeal.Gen.facts.bcast_S1_S1x1x1_2
  bcast_S1x1x1_S1048576x1x1_0_1_2 := Cert.ReferenceIdeal.Gen.facts.bcast_S1x1x1_S1048576x1x1_0_1_2
  reducesTo_S1048576x1x1_S1048576x1_d2 := Cert.ReferenceIdeal.Gen.facts.reducesTo_S1048576x1x1_S1048576x1_d2
  shapeCasts_S1048576x1_S1048576 := Cert.ReferenceIdeal.Gen.facts.shapeCasts_S1048576x1_S1048576
  sliceFits_S1048576_S734004 := by decide
  slices_S734004_S1_734002 := by decide
  shapeCasts_S1_S_ := by decide
  slices_S734004_S1_734003 := by decide
  bcast_S_S1048576 := by decide
  gather_S1048576x21_S1048576x1x1_S1048576x1_n_1_0_0_1_2_11_wf := Cert.ReferenceIdeal.Gen.facts.gather_S1048576x21_S1048576x1x1_S1048576x1_n_1_0_0_1_2_11_wf

/-- Two bits whose `and` is 1 are 1. -/
theorem andi_one {a b : BitVec 1} (h : IntOp.andi a b = 1#1) : a = 1#1 ∧ b = 1#1 := by
  revert h; revert a b; decide

/-- Of two bits whose `or` is 1, one is 1. -/
theorem ori_one {a b : BitVec 1} (h : IntOp.ori a b = 1#1) : a = 1#1 ∨ b = 1#1 := by
  revert h; revert a b; decide

/-- A decision's bit that is 1 was decided true. -/
theorem ofBool_one {p : Prop} [Decidable p] (h : BitVec.ofBool (decide p) = 1#1) : p := by
  by_contra hp
  rw [decide_eq_false hp] at h
  exact absurd h (by decide)

variable [Cert.Pre_separated.Facts]

/-- The predicate's losses, by its own operations. -/
def val (x : Scores) (t : Classes) : FVec Ideal S1048576 .f32 :=
  subf (Host.log (Host.reduceAdd (Host.exp (F := Ideal) x) (constant S_ .f32 0x00000000#32) Facts.reducesTo_S1048576x21_S1048576_d1 Facts.h_S_))
    (shapeCast S1048576 (fn_take_along_axis (F := Ideal) x (broadcastInDim S1048576x1 ![0] Facts.bcast_S1048576_S1048576x1_0 t)) Facts.shapeCasts_S1048576x1_S1048576)

/-- The host's logarithm, entry by entry. -/
theorem log_apply {s : Shape} (y : FVec Ideal s .f32) (i : s.Idx) : Host.log y i = Ideal.log (y i) := rfl
/-- The host's exponential, entry by entry. -/
theorem exp_apply {s : Shape} (y : FVec Ideal s .f32) (i : s.Idx) : Host.exp y i = Ideal.exp (y i) := rfl

/-- They are the losses. -/
theorem val_apply (x : Scores) (t : Classes) (h : InRange t) (r : Fin 1048576) : val x t (ix1 r) = loss x t r := by
  have hl : Host.log (Host.reduceAdd (Host.exp (F := Ideal) (φ := .f32) x) (constant S_ .f32 0x00000000#32)
      Facts.reducesTo_S1048576x21_S1048576_d1 Facts.h_S_) (ix1 r) = Ideal.log (∑ c : Fin 21, Ideal.exp (x (ix2 r c))) := by
    rw [log_apply]
    refine congrArg Ideal.log ?_
    generalize hy : Host.exp (F := Ideal) (φ := .f32) x = y
    simp only [Host.reduceAdd, Ideal.hostReduceAdd_def]
    rw [Ideal.hostReduceAdd_single Facts.reducesTo_S1048576x21_S1048576_d1 (by decide)]
    have hz : constant (F := Ideal) S_ .f32 0x00000000#32 (Shape.Idx.first Facts.h_S_) = (0 : EReal) := by
      show FloatOps.ofBits (F := Ideal) .f32 0x00000000#32 = (0 : EReal)
      simp [Ideal.ofBits, Ideal.ieee]
    rw [hz, zero_add]
    refine Finset.sum_congr rfl fun k _ => ?_
    rw [← hy, exp_apply]
    refine congrArg (fun j => Ideal.exp (x j)) ?_
    exact funext fun a => Fin.ext (by match a with | ⟨0, _⟩ => rfl | ⟨1, _⟩ => rfl)
  have hp : shapeCast S1048576 (fn_take_along_axis (F := Ideal) x (broadcastInDim S1048576x1 ![0] Facts.bcast_S1048576_S1048576x1_0 t))
      Facts.shapeCasts_S1048576x1_S1048576 (ix1 r) = x (ix2 r (column t r)) := by
    have e := (Cert.ReferenceIdeal.Read.val_main_v16_apply (F := Ideal) x t (ix1 r)).trans (Cert.RefLoss.picked x t h _)
    have hr : Cert.RefLoss.row2 (Cert.ReferenceIdeal.Read.idx_main_v16 (ix1 r)) = r := Fin.ext (Nat.div_one _)
    rw [hr] at e
    exact e
  show Host.log _ (ix1 r) - shapeCast S1048576 _ _ (ix1 r) = _
  rw [hl, hp]
  rfl

/-- Entry `q` of the predicate's losses in order. -/
theorem entry (x : Scores) (t : Classes) (h : InRange t) (q : ℕ) (hq : q < 734004) (hs : S734004.Slices ![q] S1) (i : S_.Idx) :
    shapeCast S_ (extractStridedSlice S1 ![q] (Host.topK S734004 0 (FloatOps.cmpfTotal .gt) (val x t) Facts.sliceFits_S1048576_S734004).1 hs)
      Facts.shapeCasts_S1_S_ i = loss x t (Cert.TopK.order (loss x t) ⟨q, by omega⟩) := by
  have hv : (fun i => val x t (Shape.Idx.ofFin i)) = loss x t := funext fun r => by
    rw [← val_apply x t h r]; exact congrArg (val x t) (eq_ix1 _)
  rw [shapeCast_apply _ Facts.shapeCasts_S1_S_ i (ix1 0) (by
    rw [Shape.rowMajor_val_one]
    have h1 : S_.numel = 1 := by decide
    have h2 := (S_.rowMajor i).isLt
    show 0 = _
    omega)]
  show (Host.topK _ 0 _ _ _).1 _ = _
  rw [Cert.TopK.topK_apply (val x t) Facts.sliceFits_S1048576_S734004 _ ⟨q, by omega⟩ rfl, hv]
  exact congrFun hv _

/-- The predicate's comparisons of the 734003rd loss and the next. -/
theorem gate (K N : FVec Ideal S_ .f32) (i : S_.Idx)
    (h : andi (cmpf .oge K (constant S_ .f32 0x00800000#32)) (ori (cmpf .oeq K (constant S_ .f32 0x7F800000#32))
      (andi (cmpf .ole N (mulf K (constant S_ .f32 0x3F7FFFFE#32))) (cmpf .ole N (constant S_ .f32 0x7F7FFFFF#32)))) i = 1#1) :
    Cert.Search.val 0x00800000 ≤ K i
      ∧ (K i = ⊤ ∨ (N i ≤ K i * Cert.Search.val 0x3F7FFFFE ∧ N i ≤ Cert.Search.val 0x7F7FFFFF)) := by
  obtain ⟨h3, h4⟩ := andi_one h
  refine ⟨ofBool_one h3, (ori_one h4).imp (fun h6 => ?_) fun h6 => ?_⟩
  · have h7 : K i = Cert.Search.val 0x7F800000 := ofBool_one h6
    exact h7.trans Cert.Search.val_inf
  · obtain ⟨h7, h8⟩ := andi_one h6
    exact ⟨ofBool_one h7, ofBool_one h8⟩

/-- What the precondition says. -/
theorem read (x : Scores) (t : Classes) (h : Cert.Pre_separated.fn (F := Ideal) x t = fun _ => 1#1) :
    InRange t ∧ Cert.Search.val 0x00800000 ≤ loss x t (Cert.TopK.order (loss x t) ⟨734002, by omega⟩)
      ∧ (loss x t (Cert.TopK.order (loss x t) ⟨734002, by omega⟩) = ⊤
        ∨ (loss x t (Cert.TopK.order (loss x t) ⟨734003, by omega⟩)
              ≤ loss x t (Cert.TopK.order (loss x t) ⟨734002, by omega⟩) * Cert.Search.val 0x3F7FFFFE
          ∧ loss x t (Cert.TopK.order (loss x t) ⟨734003, by omega⟩) ≤ Cert.Search.val 0x7F7FFFFF)) := by
  have hr : InRange t := by
    intro i
    have h0 := congrFun h i
    unfold fn fn_part1 at h0
    dsimp only at h0
    obtain ⟨h1, -⟩ := andi_one h0
    obtain ⟨h3, h4⟩ := andi_one h1
    exact ⟨ofBool_one h3, ofBool_one h4⟩
  refine ⟨hr, ?_⟩
  have h0 := congrFun h (ix1 0)
  unfold fn fn_part1 at h0
  dsimp only at h0
  obtain ⟨-, h2⟩ := andi_one h0
  clear h0
  rw [broadcastInDim_apply _ _ _ _ ix0 (fun a => a.elim0)] at h2
  have e2 := entry x t hr 734002 (by omega) Facts.slices_S734004_S1_734002 ix0
  have e3 := entry x t hr 734003 (by omega) Facts.slices_S734004_S1_734003 ix0
  unfold val at e2 e3
  have h3 := gate _ _ _ h2
  rw [e2, e3] at h3
  exact h3

end Cert.PreRead

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KFrame
public import proofs.«01_k».proof.Proof.IFrame
public import proofs.«01_k».proof.Proof.KResult
public import proofs.«01_k».proof.Proof.RefLoss
public import proofs.«01_k».proof.Proof.PreRead
public import Idealize.ShloMosaic.Lib.Quiescent

@[expose] public section

noncomputable section

namespace Cert.Proof

open Idealize.ShloMosaic Idealize.SL.Sem

/-- The reference runs, leaves its arguments and ends with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  θ_run_mono (Cert.ReferenceIdeal.Value.run (F := Ideal) m ρ) fun r h =>
    ⟨fun c => (h c).2, Idealize.ShloMosaic.sem_eq_zero_of_no_sems rfl r.2⟩

/-- Under the precondition the kernel and the reference end with the same mean loss: the mean of the 734003 largest. -/
theorem algebraic : Cert.algebraic_KernelIdeal_ReferenceIdeal_pre_separated (hKernelIdeal := Cert.KernelIdeal.Gen.facts)
    (hReferenceIdeal := Cert.ReferenceIdeal.Gen.facts) (hPre_separated := Cert.PreRead.facts) := by
  intro m g m' g' hpre hargs
  refine ⟨fun c => shapeCast Cert.KernelIdeal.S_ (Cert.KernelIdeal.Hand.result m c) Cert.KernelIdeal.Gen.facts.shapeCasts_S1x1_S_,
    Cert.KResult.run m g, ?_⟩
  refine θ_run_mono (Cert.ReferenceIdeal.Value.run (F := Ideal) m' g') fun r h c => ⟨?_, (h c).2⟩
  refine (h c).1.trans ((Cert.ReferenceIdeal.Read.val_main_v19_eq _ _).trans ?_)
  obtain ⟨hr, hA, hgap⟩ := @Cert.PreRead.read Cert.PreRead.facts _ _ (hpre c)
  rw [(hargs c).1, (hargs c).2]
  funext i
  refine (Cert.RefLoss.result _ _ hr i).trans ?_
  exact (Cert.KResult.result_apply m c hr hA hgap _).symm

/-- The claims of the certificate. -/
theorem claim : Cert.Claim :=
  ⟨Cert.Kernel.Gen.facts, Cert.KernelIdeal.Gen.facts, Cert.ReferenceIdeal.Gen.facts, Cert.PreRead.facts,
    fun m ρ _ => Cert.Kernel.Hand.frame m ρ, fun m ρ _ => Cert.KernelIdeal.Hand.frame m ρ,
    fun m ρ _ => Cert.KernelIdeal.Hand.frame m ρ, fun m ρ _ => reference_frame m ρ, fun m ρ _ => reference_frame m ρ,
    trivial, algebraic⟩

end Cert.Proof

end
